-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on__on [hKernelIdeal : Cert.KernelIdeal.Facts] [hReferenceIdeal : Cert.ReferenceIdeal.Facts] [hOn__on : Cert.On__on.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 1024, 2816]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v8) i = v0 c i)
          ∧ (∀ i : (⟨2, ![2816, 24]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v9) i = v1 c i)
          ∧ (∀ i : (⟨2, ![24, 5760]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v7_2) i = v2 c i)
          ∧ (∀ i : (⟨1, ![5760]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v10) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 1024, 2816]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v55) i = v0 c i)
          ∧ (∀ i : (⟨2, ![2816, 24]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v80) i = v1 c i)
          ∧ (∀ i : (⟨2, ![24, 5760]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v89) i = v2 c i)
          ∧ (∀ i : (⟨1, ![5760]⟩ : Shape).Idx, (Cert.On__on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.ReferenceIdeal.nD Cert.ReferenceIdeal.τ).loc Cert.ReferenceIdeal.main_v70) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn__on : Cert.On__on.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on__on (hKernelIdeal := hKernelIdeal) (hReferenceIdeal := hReferenceIdeal) (hOn__on := hOn__on)
-- ==== On__on.lean ====
abbrev S2x1024x5760 : Shape := ⟨3, ![2, 1024, 5760]⟩
abbrev S2x1024x2816 : Shape := ⟨3, ![2, 1024, 2816]⟩
abbrev S2x1024 : Shape := ⟨2, ![2, 1024]⟩
abbrev S2816x2880 : Shape := ⟨2, ![2816, 2880]⟩
abbrev S22x5760 : Shape := ⟨2, ![22, 5760]⟩
abbrev S2816x24 : Shape := ⟨2, ![2816, 24]⟩
abbrev S24x5760 : Shape := ⟨2, ![24, 5760]⟩
abbrev S5760 : Shape := ⟨1, ![5760]⟩
abbrev S_ : Shape := ⟨0, ![]⟩

class Facts : Prop where
  bcast_S_S2x1024x2816 : S_.BroadcastsInDim S2x1024x2816 (![] : Fin 0 → Fin S2x1024x2816.rank)
  bcast_S_S2816x24 : S_.BroadcastsInDim S2816x24 (![] : Fin 0 → Fin S2816x24.rank)
  bcast_S_S24x5760 : S_.BroadcastsInDim S24x5760 (![] : Fin 0 → Fin S24x5760.rank)
  bcast_S_S5760 : S_.BroadcastsInDim S5760 (![] : Fin 0 → Fin S5760.rank)

variable [Facts]

def fn {F : FTy → Type} [FloatOps F] (main_arg0 : FVec F S2x1024x5760 .bf16) (main_arg1 : FVec F S2x1024x2816 .fp8e4m3) (main_arg2 : FVec F S2x1024 .f32) (main_arg3 : IVec S2816x2880 8) (main_arg4 : FVec F S22x5760 .bf16) (main_arg5 : FVec F S2816x24 .bf16) (main_arg6 : FVec F S24x5760 .bf16) (main_arg7 : FVec F S5760 .f32) (main_arg8 : FVec F S5760 .f32) : IVec S2x1024x2816 1 × IVec S2816x24 1 × IVec S24x5760 1 × IVec S5760 1 :=
  let main_c : IVec S_ 1 := constantI S_ 1 1#1
  let main_v0 : IVec S2x1024x2816 1 := broadcastInDim S2x1024x2816 ![] bcast_S_S2x1024x2816 main_c
  let main_c_0 : IVec S_ 1 := constantI S_ 1 1#1
  let main_v1 : IVec S2816x24 1 := broadcastInDim S2816x24 ![] bcast_S_S2816x24 main_c_0
  let main_c_1 : IVec S_ 1 := constantI S_ 1 1#1
  let main_v2 : IVec S24x5760 1 := broadcastInDim S24x5760 ![] bcast_S_S24x5760 main_c_1
  let main_cst : FVec F S_ .f32 := constant S_ .f32 0x00000000#32
  let main_v3 : FVec F S5760 .f32 := broadcastInDim S5760 ![] bcast_S_S5760 main_cst
  let main_v4 : IVec S5760 1 := cmpf .ogt main_arg8 main_v3
  (main_v0, main_v1, main_v2, main_v4)
-- ==== Kernel.lean ====
abbrev S2x1024x5760 : Shape := ⟨3, ![2, 1024, 5760]⟩
abbrev S2x1024x2816 : Shape := ⟨3, ![2, 1024, 2816]⟩
abbrev S2x1024 : Shape := ⟨2, ![2, 1024]⟩
abbrev S2816x2880 : Shape := ⟨2, ![2816, 2880]⟩
abbrev S22x5760 : Shape := ⟨2, ![22, 5760]⟩
abbrev S2816x24 : Shape := ⟨2, ![2816, 24]⟩
abbrev S24x5760 : Shape := ⟨2, ![24, 5760]⟩
abbrev S5760 : Shape := ⟨1, ![5760]⟩
abbrev S2048x5760 : Shape := ⟨2, ![2048, 5760]⟩
abbrev S2048x2816 : Shape := ⟨2, ![2048, 2816]⟩
abbrev S2048x1 : Shape := ⟨2, ![2048, 1]⟩
abbrev S2880x2816 : Shape := ⟨2, ![2880, 2816]⟩
abbrev S24x2816 : Shape := ⟨2, ![24, 2816]⟩
abbrev S1x5760 : Shape := ⟨2, ![1, 5760]⟩
abbrev S2048x256 : Shape := ⟨2, ![2048, 256]⟩
abbrev S128x2816 : Shape := ⟨2, ![128, 2816]⟩
abbrev S22x256 : Shape := ⟨2, ![22, 256]⟩
abbrev S24x256 : Shape := ⟨2, ![24, 256]⟩
abbrev S1x256 : Shape := ⟨2, ![1, 256]⟩
abbrev S256x2816 : Shape := ⟨2, ![256, 2816]⟩
abbrev S2048x24 : Shape := ⟨2, ![2048, 24]⟩
abbrev S512x2816 : Shape := ⟨2, ![512, 2816]⟩
abbrev S512x24 : Shape := ⟨2, ![512, 24]⟩
abbrev S512x1 : Shape := ⟨2, ![512, 1]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S24x128 : Shape := ⟨2, ![24, 128]⟩
abbrev S128x256 : Shape := ⟨2, ![128, 256]⟩
abbrev S512x256 : Shape := ⟨2, ![512, 256]⟩
abbrev S256 : Shape := ⟨1, ![256]⟩

abbrev nBuf : Space → Nat
  | .hbm => 23
  | .vmem => 26
  | .smem => 0
  | _ => 0

abbrev bufTy : (tb : Table) → Fin (tcTables nBuf tb) → BufTy
  | .hbm, ⟨0, _⟩ => ⟨S2x1024x5760, .bf16⟩
  | .hbm, ⟨1, _⟩ => ⟨S2x1024x2816, .fp8e4m3⟩
  | .hbm, ⟨2, _⟩ => ⟨S2x1024, .f32⟩
  | .hbm, ⟨3, _⟩ => ⟨S2816x2880, .i8⟩
  | .hbm, ⟨4, _⟩ => ⟨S22x5760, .bf16⟩
  | .hbm, ⟨5, _⟩ => ⟨S2816x24, .bf16⟩
  | .hbm, ⟨6, _⟩ => ⟨S24x5760, .bf16⟩
  | .hbm, ⟨7, _⟩ => ⟨S5760, .f32⟩
  | .hbm, ⟨8, _⟩ => ⟨S5760, .f32⟩
  | .hbm, ⟨9, _⟩ => ⟨S2048x5760, .bf16⟩
  | .hbm, ⟨10, _⟩ => ⟨S2048x2816, .fp8e4m3⟩
  | .hbm, ⟨11, _⟩ => ⟨S2048x1, .f32⟩
  | .hbm, ⟨12, _⟩ => ⟨S2880x2816, .i8⟩
  | .hbm, ⟨13, _⟩ => ⟨S24x2816, .bf16⟩
  | .hbm, ⟨14, _⟩ => ⟨S1x5760, .f32⟩
  | .hbm, ⟨15, _⟩ => ⟨S1x5760, .f32⟩
  | .hbm, ⟨16, _⟩ => ⟨S2048x2816, .bf16⟩
  | .hbm, ⟨17, _⟩ => ⟨S24x2816, .bf16⟩
  | .hbm, ⟨18, _⟩ => ⟨S24x5760, .bf16⟩
  | .hbm, ⟨19, _⟩ => ⟨S1x5760, .f32⟩
  | .hbm, ⟨20, _⟩ => ⟨S2x1024x2816, .bf16⟩
  | .hbm, ⟨21, _⟩ => ⟨S2816x24, .bf16⟩
  | .hbm, ⟨22, _⟩ => ⟨S5760, .f32⟩
  | .local _ .vmem, ⟨0, _⟩ => ⟨S2048x256, .bf16⟩
  | .local _ .vmem, ⟨1, _⟩ => ⟨S2048x256, .bf16⟩
  | .local _ .vmem, ⟨2, _⟩ => ⟨S2048x2816, .fp8e4m3⟩
  | .local _ .vmem, ⟨3, _⟩ => ⟨S2048x1, .f32⟩
  | .local _ .vmem, ⟨4, _⟩ => ⟨S128x2816, .i8⟩
  | .local _ .vmem, ⟨5, _⟩ => ⟨S128x2816, .i8⟩
  | .local _ .vmem, ⟨6, _⟩ => ⟨S22x256, .bf16⟩
  | .local _ .vmem, ⟨7, _⟩ => ⟨S22x256, .bf16⟩
  | .local _ .vmem, ⟨8, _⟩ => ⟨S24x2816, .bf16⟩
  | .local _ .vmem, ⟨9, _⟩ => ⟨S24x256, .bf16⟩
  | .local _ .vmem, ⟨10, _⟩ => ⟨S24x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2048x2816, .bf16⟩
  | .local _ .vmem, ⟨16, _⟩ => ⟨S24x2816, .bf16⟩
  | .local _ .vmem, ⟨17, _⟩ => ⟨S24x256, .bf16⟩
  | .local _ .vmem, ⟨18, _⟩ => ⟨S24x256, .bf16⟩
  | .local _ .vmem, ⟨19, _⟩ => ⟨S1x256, .f32⟩
  | .local _ .vmem, ⟨20, _⟩ => ⟨S1x256, .f32⟩
  | .local _ .vmem, ⟨21, _⟩ => ⟨S2048x2816, .f32⟩
  | .local _ .vmem, ⟨22, _⟩ => ⟨S256x2816, .bf16⟩
  | .local _ .vmem, ⟨23, _⟩ => ⟨S2048x24, .f32⟩
  | .local _ .vmem, ⟨24, _⟩ => ⟨S2048x24, .bf16⟩
  | .local _ .vmem, ⟨25, _⟩ => ⟨S2048x256, .bf16⟩
  | _, _ => ⟨S2x1024x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![23], ![false]⟩

def k0_cond2 (i : grid0.Coords) : BitVec 1 :=
  let arg0 : BitVec 32 := BitVec.ofNat 32 (i 0).val
  let c22_i32 : BitVec 32 := 22#32
  let v1033 : BitVec 1 := Scalar.cmpi .eq arg0 c22_i32
  let v1034 : BitVec 32 := Scalar.extui v1033
  let c0_i32_406 : BitVec 32 := 0#32
  let v1035 : BitVec 1 := Scalar.cmpi .ne v1034 c0_i32_406
  v1035

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2816 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S22x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S24x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S24x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S24x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S24x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x1024x5760 : Shape := ⟨3, ![2, 1024, 5760]⟩
abbrev S2x1024x2816 : Shape := ⟨3, ![2, 1024, 2816]⟩
abbrev S2x1024 : Shape := ⟨2, ![2, 1024]⟩
abbrev S2816x2880 : Shape := ⟨2, ![2816, 2880]⟩
abbrev S22x5760 : Shape := ⟨2, ![22, 5760]⟩
abbrev S2816x24 : Shape := ⟨2, ![2816, 24]⟩
abbrev S24x5760 : Shape := ⟨2, ![24, 5760]⟩
abbrev S5760 : Shape := ⟨1, ![5760]⟩
abbrev S_ : Shape := ⟨0, ![]⟩
abbrev S22x2880 : Shape := ⟨2, ![22, 2880]⟩
abbrev S22x128x2880 : Shape := ⟨3, ![22, 128, 2880]⟩
abbrev S22x1x2880 : Shape := ⟨3, ![22, 1, 2880]⟩
abbrev S24x2880 : Shape := ⟨2, ![24, 2880]⟩
abbrev S1x1x5760 : Shape := ⟨3, ![1, 1, 5760]⟩
abbrev S2x1024x2880 : Shape := ⟨3, ![2, 1024, 2880]⟩
abbrev S2x1024x2880x1 : Shape := ⟨4, ![2, 1024, 2880, 1]⟩
abbrev S2x1024x2880x2 : Shape := ⟨4, ![2, 1024, 2880, 2]⟩
abbrev S2x1024x1 : Shape := ⟨3, ![2, 1024, 1]⟩
abbrev S2x1024x24 : Shape := ⟨3, ![2, 1024, 24]⟩

abbrev nBuf : Space → Nat
  | .hbm => 111
  | .vmem => 2
  | .smem => 0
  | _ => 0

abbrev bufTy : (tb : Table) → Fin (tcTables nBuf tb) → BufTy
  | .hbm, ⟨0, _⟩ => ⟨S2x1024x5760, .bf16⟩
  | .hbm, ⟨1, _⟩ => ⟨S2x1024x2816, .fp8e4m3⟩
  | .hbm, ⟨2, _⟩ => ⟨S2x1024, .f32⟩
  | .hbm, ⟨3, _⟩ => ⟨S2816x2880, .i8⟩
  | .hbm, ⟨4, _⟩ => ⟨S22x5760, .bf16⟩
  | .hbm, ⟨5, _⟩ => ⟨S2816x24, .bf16⟩
  | .hbm, ⟨6, _⟩ => ⟨S24x5760, .bf16⟩
  | .hbm, ⟨7, _⟩ => ⟨S5760, .f32⟩
  | .hbm, ⟨8, _⟩ => ⟨S5760, .f32⟩
  | .hbm, ⟨9, _⟩ => ⟨S2x1024x2816, .bf16⟩
  | .hbm, ⟨10, _⟩ => ⟨S2816x2880, .i32⟩
  | .hbm, ⟨11, _⟩ => ⟨S_, .i32⟩
  | .hbm, ⟨12, _⟩ => ⟨S2816x2880, .i32⟩
  | .hbm, ⟨13, _⟩ => ⟨S2816x2880, .i32⟩
  | .hbm, ⟨14, _⟩ => ⟨S_, .i32⟩
  | .hbm, ⟨15, _⟩ => ⟨S2816x2880, .i32⟩
  | .hbm, ⟨16, _⟩ => ⟨S2816x2880, .i32⟩
  | .hbm, ⟨17, _⟩ => ⟨S_, .i32⟩
  | .hbm, ⟨18, _⟩ => ⟨S2816x2880, .i32⟩
  | .hbm, ⟨19, _⟩ => ⟨S2816x2880, .i32⟩
  | .hbm, ⟨20, _⟩ => ⟨S22x2880, .bf16⟩
  | .hbm, ⟨21, _⟩ => ⟨S2816x2880, .bf16⟩
  | .hbm, ⟨22, _⟩ => ⟨S22x128x2880, .bf16⟩
  | .hbm, ⟨23, _⟩ => ⟨S22x1x2880, .bf16⟩
  | .hbm, ⟨24, _⟩ => ⟨S22x128x2880, .bf16⟩
  | .hbm, ⟨25, _⟩ => ⟨S22x128x2880, .bf16⟩
  | .hbm, ⟨26, _⟩ => ⟨S2816x2880, .bf16⟩
  | .hbm, ⟨27, _⟩ => ⟨S_, .i32⟩
  | .hbm, ⟨28, _⟩ => ⟨S2816x2880, .i32⟩
  | .hbm, ⟨29, _⟩ => ⟨S2816x2880, .i32⟩
  | .hbm, ⟨30, _⟩ => ⟨S_, .i32⟩
  | .hbm, ⟨31, _⟩ => ⟨S2816x2880, .i32⟩
  | .hbm, ⟨32, _⟩ => ⟨S2816x2880, .i32⟩
  | .hbm, ⟨33, _⟩ => ⟨S_, .i32⟩
  | .hbm, ⟨34, _⟩ => ⟨S2816x2880, .i32⟩
  | .hbm, ⟨35, _⟩ => ⟨S2816x2880, .i32⟩
  | .hbm, ⟨36, _⟩ => ⟨S_, .i32⟩
  | .hbm, ⟨37, _⟩ => ⟨S2816x2880, .i32⟩
  | .hbm, ⟨38, _⟩ => ⟨S2816x2880, .i32⟩
  | .hbm, ⟨39, _⟩ => ⟨S22x2880, .bf16⟩
  | .hbm, ⟨40, _⟩ => ⟨S2816x2880, .bf16⟩
  | .hbm, ⟨41, _⟩ => ⟨S22x128x2880, .bf16⟩
  | .hbm, ⟨42, _⟩ => ⟨S22x1x2880, .bf16⟩
  | .hbm, ⟨43, _⟩ => ⟨S22x128x2880, .bf16⟩
  | .hbm, ⟨44, _⟩ => ⟨S22x128x2880, .bf16⟩
  | .hbm, ⟨45, _⟩ => ⟨S2816x2880, .bf16⟩
  | .hbm, ⟨46, _⟩ => ⟨S24x2880, .bf16⟩
  | .hbm, ⟨47, _⟩ => ⟨S2816x2880, .f32⟩
  | .hbm, ⟨48, _⟩ => ⟨S24x2880, .bf16⟩
  | .hbm, ⟨49, _⟩ => ⟨S2816x2880, .f32⟩
  | .hbm, ⟨50, _⟩ => ⟨S2816x2880, .f32⟩
  | .hbm, ⟨51, _⟩ => ⟨S_, .f32⟩
  | .hbm, ⟨52, _⟩ => ⟨S2816x2880, .f32⟩
  | .hbm, ⟨53, _⟩ => ⟨S2816x2880, .f32⟩
  | .hbm, ⟨54, _⟩ => ⟨S2816x2880, .f32⟩
  | .hbm, ⟨55, _⟩ => ⟨S2816x2880, .bf16⟩
  | .hbm, ⟨56, _⟩ => ⟨S2816x2880, .f32⟩
  | .hbm, ⟨57, _⟩ => ⟨S_, .f32⟩
  | .hbm, ⟨58, _⟩ => ⟨S2816x2880, .f32⟩
  | .hbm, ⟨59, _⟩ => ⟨S2816x2880, .f32⟩
  | .hbm, ⟨60, _⟩ => ⟨S2816x2880, .f32⟩
  | .hbm, ⟨61, _⟩ => ⟨S2816x2880, .bf16⟩
  | .hbm, ⟨62, _⟩ => ⟨S5760, .f32⟩
  | .hbm, ⟨63, _⟩ => ⟨S2x1024x5760, .f32⟩
  | .hbm, ⟨64, _⟩ => ⟨S1x1x5760, .f32⟩
  | .hbm, ⟨65, _⟩ => ⟨S2x1024x5760, .f32⟩
  | .hbm, ⟨66, _⟩ => ⟨S2x1024x5760, .f32⟩
  | .hbm, ⟨67, _⟩ => ⟨S2x1024x5760, .bf16⟩
  | .hbm, ⟨68, _⟩ => ⟨S2x1024x2880, .bf16⟩
  | .hbm, ⟨69, _⟩ => ⟨S2x1024x2816, .f32⟩
  | .hbm, ⟨70, _⟩ => ⟨S2x1024x2880, .bf16⟩
  | .hbm, ⟨71, _⟩ => ⟨S2x1024x2816, .f32⟩
  | .hbm, ⟨72, _⟩ => ⟨S2x1024x2816, .f32⟩
  | .hbm, ⟨73, _⟩ => ⟨S2x1024x2816, .bf16⟩
  | .hbm, ⟨74, _⟩ => ⟨S2x1024x2880, .f32⟩
  | .hbm, ⟨75, _⟩ => ⟨S2x1024x2880, .f32⟩
  | .hbm, ⟨76, _⟩ => ⟨S2x1024x2880x1, .f32⟩
  | .hbm, ⟨77, _⟩ => ⟨S2x1024x2880x1, .f32⟩
  | .hbm, ⟨78, _⟩ => ⟨S2x1024x2880x2, .f32⟩
  | .hbm, ⟨79, _⟩ => ⟨S2x1024x5760, .f32⟩
  | .hbm, ⟨80, _⟩ => ⟨S2x1024x1, .f32⟩
  | .hbm, ⟨81, _⟩ => ⟨S2x1024x5760, .f32⟩
  | .hbm, ⟨82, _⟩ => ⟨S2x1024x5760, .f32⟩
  | .hbm, ⟨83, _⟩ => ⟨S2x1024x5760, .f32⟩
  | .hbm, ⟨84, _⟩ => ⟨S2x1024x5760, .f32⟩
  | .hbm, ⟨85, _⟩ => ⟨S1x1x5760, .f32⟩
  | .hbm, ⟨86, _⟩ => ⟨S2x1024x5760, .f32⟩
  | .hbm, ⟨87, _⟩ => ⟨S2x1024x5760, .f32⟩
  | .hbm, ⟨88, _⟩ => ⟨S_, .f32⟩
  | .hbm, ⟨89, _⟩ => ⟨S5760, .f32⟩
  | .hbm, ⟨90, _⟩ => ⟨S2x1024x24, .f32⟩
  | .hbm, ⟨91, _⟩ => ⟨S2x1024x24, .bf16⟩
  | .hbm, ⟨92, _⟩ => ⟨S2x1024, .bf16⟩
  | .hbm, ⟨93, _⟩ => ⟨S2x1024x1, .bf16⟩
  | .hbm, ⟨94, _⟩ => ⟨S2x1024x2816, .bf16⟩
  | .hbm, ⟨95, _⟩ => ⟨S2x1024x2816, .bf16⟩
  | .hbm, ⟨96, _⟩ => ⟨S2816x24, .f32⟩
  | .hbm, ⟨97, _⟩ => ⟨S_, .f32⟩
  | .hbm, ⟨98, _⟩ => ⟨S2816x24, .f32⟩
  | .hbm, ⟨99, _⟩ => ⟨S2816x24, .f32⟩
  | .hbm, ⟨100, _⟩ => ⟨S2816x24, .bf16⟩
  | .hbm, ⟨101, _⟩ => ⟨S2x1024x24, .f32⟩
  | .hbm, ⟨102, _⟩ => ⟨S2x1024x1, .f32⟩
  | .hbm, ⟨103, _⟩ => ⟨S2x1024x24, .f32⟩
  | .hbm, ⟨104, _⟩ => ⟨S2x1024x24, .f32⟩
  | .hbm, ⟨105, _⟩ => ⟨S2x1024x24, .bf16⟩
  | .hbm, ⟨106, _⟩ => ⟨S24x5760, .f32⟩
  | .hbm, ⟨107, _⟩ => ⟨S_, .f32⟩
  | .hbm, ⟨108, _⟩ => ⟨S24x5760, .f32⟩
  | .hbm, ⟨109, _⟩ => ⟨S24x5760, .f32⟩
  | .hbm, ⟨110, _⟩ => ⟨S24x5760, .bf16⟩
  | .local _ .vmem, ⟨0, _⟩ => ⟨S2x1024x2816, .fp8e4m3⟩
  | .local _ .vmem, ⟨1, _⟩ => ⟨S2x1024x2816, .bf16⟩
  | _, _ => ⟨S2x1024x5760, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_7 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelBody.Runs.lean ====
/-
  What the runs of the kernel's body share: the conditions of its two `pl.when` in closed form over the grid points,
  where the output windows are idle, the staging and scratch memrefs, and the region's invariant with the scratch
  operands spelled as memrefs.
-/
module

public import proofs.«01_k».proof.Proof.Gen.Kernel.Skeleton
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 23 = 0 :=
  (fun t => by
    have ht : t.val < 23 := Nat.lt_of_lt_of_eq t.isLt N_0
    have e0 : (grid0.coords t 0).val = t.val / 1 % 23 := Pipeline.Grid.coords_val t 0 (by decide) rfl
    simp only [cond0_0, e0]
    word_cmp
   : ∀ t : Fin grid0.N, cond0_0 (grid0.coords t) ↔ t.val % 23 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 23 = 22 :=
  (fun t => by
    have ht : t.val < 23 := Nat.lt_of_lt_of_eq t.isLt N_0
    have e0 : (grid0.coords t 0).val = t.val / 1 % 23 := Pipeline.Grid.coords_val t 0 (by decide) rfl
    simp only [cond0_1, k0_cond2, e0]
    word_cmp
   : ∀ t : Fin grid0.N, cond0_1 (grid0.coords t) ↔ t.val % 23 = 22)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 9, through which its contents are stated (`View.read_writes_of_cover`: the
    choice does not matter). -/
abbrev VO0_9 : View sig .tc .vmem S2048x2816 .bf16 := (Memref.whole cc0_stg9_0 : Memref sig .tc .vmem S2048x2816 .bf16).view
/-- One staging buffer of output window 10, through which its contents are stated (`View.read_writes_of_cover`: the
    choice does not matter). -/
abbrev VO0_10 : View sig .tc .vmem S24x2816 .bf16 := (Memref.whole cc0_stg10_0 : Memref sig .tc .vmem S24x2816 .bf16).view
/-- One staging buffer of output window 11, through which its contents are stated (`View.read_writes_of_cover`: the
    choice does not matter). -/
abbrev VO0_11 : View sig .tc .vmem S24x256 .bf16 := (Memref.whole cc0_stg11_0 : Memref sig .tc .vmem S24x256 .bf16).view
/-- One staging buffer of output window 12, through which its contents are stated (`View.read_writes_of_cover`: the
    choice does not matter). -/
abbrev VO0_12 : View sig .tc .vmem S1x256 .f32 := (Memref.whole cc0_stg12_0 : Memref sig .tc .vmem S1x256 .f32).view
/-- Each window's current staging memref at point `t`, spelled as the pipeline passes it (`bodyAt0`), and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2816 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2816 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S22x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x2816 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x2816 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S24x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S2048x2816 .f32 := Memref.whole cc0_scratch0
abbrev scM0_1 : Memref sig .tc .vmem S256x2816 .bf16 := Memref.whole cc0_scratch1
abbrev scM0_2 : Memref sig .tc .vmem S2048x24 .f32 := Memref.whole cc0_scratch2
abbrev scM0_3 : Memref sig .tc .vmem S2048x24 .bf16 := Memref.whole cc0_scratch3
abbrev scM0_4 : Memref sig .tc .vmem S2048x256 .bf16 := Memref.whole cc0_scratch4
/-- The scratch `arg14` the kernel carries between points, as a view: what it holds is stated through it. -/
abbrev VS0_0 : View sig .tc .vmem S2048x2816 .f32 := scM0_0.view
/-- The scratch `arg16` the kernel carries between points, as a view: what it holds is stated through it. -/
abbrev VS0_2 : View sig .tc .vmem S2048x24 .f32 := scM0_2.view
/-- The scratch `arg17` the kernel carries between points, as a view: what it holds is stated through it. -/
abbrev VS0_3 : View sig .tc .vmem S2048x24 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Body

end
-- ==== Proof.KernelBody.RunA.lean ====
/-
  The whole-body run of the kernel at the first grid point (the accumulators are zeroed and the projection `x·A` is computed): the body's triple by
  `sl_exec` over the printed program's skeleton; the pieces each buffer ends with are the witness.
-/
module

public import proofs.«01_k».proof.Proof.KernelBody.Runs

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE A (`scf.if` 0 taken, `scf.if` 1 not taken: points 0), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc0 : cond0_0 i) (hc1 : ¬cond0_1 i)
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32) :
    Σ' (L9 : List (View.Piece (Elt F) S2048x2816 .bf16)), Σ' (L10 : List (View.Piece (Elt F) S24x2816 .bf16)), Σ' (L11 : List (View.Piece (Elt F) S24x256 .bf16)), Σ' (L12 : List (View.Piece (Elt F) S1x256 .f32)), Σ' (LS0 : List (View.Piece (Elt F) S2048x2816 .f32)), Σ' (LS2 : List (View.Piece (Elt F) S2048x24 .f32)), Σ' (LS3 : List (View.Piece (Elt F) S2048x24 .bf16)), Σ' (LT1 : List (View.Piece (Elt F) S256x2816 .bf16)), { LT4 : List (View.Piece (Elt F) S2048x256 .bf16) //
      ∀ (xi9 : Vec F S2048x2816 .bf16) (xi10 : Vec F S24x2816 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LT4)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, ?_, ?_, ?_, ?_, fun xi9 xi10 E K => ?run⟩
  case run =>
    simp only [cc0_dora_bwd_eq_skeleton]; unfold cc0_dora_bwd_skel
    simp only [k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    iexists _; iexact HS4

end Cert.Kernel.Body

end
-- ==== Proof.KernelBody.RunB.lean ====
/-
  The whole-body run of the kernel at a middle grid point: the body's triple by
  `sl_exec` over the printed program's skeleton; the pieces each buffer ends with are the witness.
-/
module

public import proofs.«01_k».proof.Proof.KernelBody.RunA

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 21: 21 of 23), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc0 : ¬cond0_0 i) (hc1 : ¬cond0_1 i)
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32) (xs0 : Vec F S2048x2816 .f32) (xs2 : Vec F S2048x24 .f32) (xs3 : Vec F S2048x24 .bf16) :
    Σ' (L9 : List (View.Piece (Elt F) S2048x2816 .bf16)), Σ' (L10 : List (View.Piece (Elt F) S24x2816 .bf16)), Σ' (L11 : List (View.Piece (Elt F) S24x256 .bf16)), Σ' (L12 : List (View.Piece (Elt F) S1x256 .f32)), Σ' (LS0 : List (View.Piece (Elt F) S2048x2816 .f32)), Σ' (LS2 : List (View.Piece (Elt F) S2048x24 .f32)), Σ' (LS3 : List (View.Piece (Elt F) S2048x24 .bf16)), Σ' (LT1 : List (View.Piece (Elt F) S256x2816 .bf16)), { LT4 : List (View.Piece (Elt F) S2048x256 .bf16) //
      ∀ (xi9 : Vec F S2048x2816 .bf16) (xi10 : Vec F S24x2816 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare xs3 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LT4)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, ?_, [], ?_, ?_, fun xi9 xi10 E K => ?run⟩
  case run =>
    simp only [cc0_dora_bwd_eq_skeleton]; unfold cc0_dora_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%ds1, %fs1, -, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg16.eq_unread hfs2; obtain rfl := harg17.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.Kernel.Body

end
-- ==== Proof.KernelBody.RunC.lean ====
/-
  The whole-body run of the kernel at the last grid point (the accumulated results are stored): the body's triple by
  `sl_exec` over the printed program's skeleton; the pieces each buffer ends with are the witness.
-/
module

public import proofs.«01_k».proof.Proof.KernelBody.RunB

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 21), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc0 : ¬cond0_0 i) (hc1 : cond0_1 i)
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32) (xs0 : Vec F S2048x2816 .f32) (xs2 : Vec F S2048x24 .f32) (xs3 : Vec F S2048x24 .bf16) :
    Σ' (L9 : List (View.Piece (Elt F) S2048x2816 .bf16)), Σ' (L10 : List (View.Piece (Elt F) S24x2816 .bf16)), Σ' (L11 : List (View.Piece (Elt F) S24x256 .bf16)), Σ' (L12 : List (View.Piece (Elt F) S1x256 .f32)), Σ' (LS0 : List (View.Piece (Elt F) S2048x2816 .f32)), Σ' (LS2 : List (View.Piece (Elt F) S2048x24 .f32)), Σ' (LS3 : List (View.Piece (Elt F) S2048x24 .bf16)), Σ' (LT1 : List (View.Piece (Elt F) S256x2816 .bf16)), { LT4 : List (View.Piece (Elt F) S2048x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare xs3 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LT4)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, [], ?_, ?_, fun E K => ?run⟩
  case run =>
    simp only [cc0_dora_bwd_eq_skeleton]; unfold cc0_dora_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hfs0; obtain rfl := harg16.eq_unread hfs2; obtain rfl := harg17.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.Kernel.Body

end
-- ==== Proof.KernelBody.Any.lean ====
/-
  The body of the kernel, run at any grid point on any contents: it terminates without fault and hands every buffer
  back, the inputs' as they were, the outputs' and the scratch at some contents. Nothing is said of the values here.
-/
module

public import proofs.«01_k».proof.Proof.KernelBody.RunC
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held at given cells is owned at what those cells read. -/
theorem owns_some (c : Dev nD) {S : Shape} {e : EltTy} (a : Memref sig .tc .vmem S e) (f : a.view.ty.Contents (Elt F)) :
    iprop(a.view.loc (c : Thread nD τ) ↦[a.view.set]{fullShare} f) ⊢ (iprop(∃ d, owns (c : Thread nD τ) a fullShare d) : sProp 𝕄) := by
  unfold owns
  iintro H
  iexists _; iexists f
  isplitr
  · ipureintro; rfl
  iexact H

set_option maxHeartbeats 1600000 in
/-- The body's triple without values: on whole staging memrefs, the inputs' at contents `x·`, the outputs' and the
    scratch at anything, the body runs to the continuation holding the inputs' as they were and the others at something.
    The three runs are the three cases of the two `pl.when`. -/
theorem body_any (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc : ¬(cond0_0 i ∧ cond0_1 i))
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc0 : cond0_0 i <;> by_cases hc1 : cond0_1 i
  · exact absurd ⟨hc0, hc1⟩ hc
  · iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hk⟩
    iapply (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.2.2.2 d10 d11 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iintro ⟨H1, H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; iexact H10
    isplitl [H11]
    · iexists _; iexact H11
    isplitl [H12]
    · iapply (owns_some c arg12 _); iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    isplitl [H17]
    · iapply (owns_some c arg17 _); iexact H17
    · iapply (owns_some c arg18 _); iexact H18
  · iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hk⟩
    iapply (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 d14 d16 d17).2.2.2.2.2.2.2.2.2 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexact H16
    isplitl [H17]; · iexact H17
    isplitl [H18]; · iexists _; iexact H18
    iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, H17, ⟨%f18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (owns_some c arg10 _); iexact H10
    isplitl [H11]
    · iapply (owns_some c arg11 _); iexact H11
    isplitl [H12]
    · iapply (owns_some c arg12 _); iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    isplitl [H17]
    · iexists _; iexact H17
    · iapply (owns_some c arg18 _); iexact H18
  · iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hk⟩
    iapply (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 d14 d16 d17).2.2.2.2.2.2.2.2.2 d10 d11 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexists _; iexact H15
    isplitl [H16]; · iexact H16
    isplitl [H17]; · iexact H17
    isplitl [H18]; · iexists _; iexact H18
    iintro ⟨H1, H2, H3, H4, H5, H6, H7, H8, H9, H10, H11, ⟨%f12, H12⟩, ⟨%f13, H13⟩, ⟨%f14, H14⟩, ⟨%f15, H15⟩, ⟨%f16, H16⟩, H17, ⟨%f18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; iexact H10
    isplitl [H11]
    · iexists _; iexact H11
    isplitl [H12]
    · iapply (owns_some c arg12 _); iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    isplitl [H17]
    · iexists _; iexact H17
    · iapply (owns_some c arg18 _); iexact H18

end Cert.Kernel.Body

end
-- ==== Proof.KernelBody.Frame.lean ====
/-
  The frame of the kernel: it terminates without fault from any memory with zero counters, leaves its arguments as it
  found them and every semaphore counter at zero. The outputs are forgotten (nothing is said of what they hold) and the
  scratch is held at some contents, so one triple without values (`body_any`) is all the body has to satisfy. Six of the
  inputs' blocks overhang their arrays at the last grid point: there a staging buffer holds the block filled out with
  words nothing names.
-/
module

public import proofs.«01_k».proof.Proof.KernelBody.Any
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The output windows, of which nothing is stated. -/
def forgets0 : Fin 13 → Bool := fun w => w.val == 9 || w.val == 10 || w.val == 11 || w.val == 12

/-- The proof data: the arrays as the region finds them; after the body each input's buffer at its block (a block that may
    overhang its array filled out with unnamed words), the outputs' unnamed; every scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (grid0.coords t) (Dat.unnamed (cfg := cfg0) 0 t) (iblk m c 0 t)
    | ⟨1, _⟩ => iblk m c 1 t
    | ⟨2, _⟩ => iblk m c 2 t
    | ⟨3, _⟩ => (cfg0.win 3).fill (grid0.coords t) (Dat.unnamed (cfg := cfg0) 3 t) (iblk m c 3 t)
    | ⟨4, _⟩ => (cfg0.win 4).fill (grid0.coords t) (Dat.unnamed (cfg := cfg0) 4 t) (iblk m c 4 t)
    | ⟨5, _⟩ => iblk m c 5 t
    | ⟨6, _⟩ => (cfg0.win 6).fill (grid0.coords t) (Dat.unnamed (cfg := cfg0) 6 t) (iblk m c 6 t)
    | ⟨7, _⟩ => (cfg0.win 7).fill (grid0.coords t) (Dat.unnamed (cfg := cfg0) 7 t) (iblk m c 7 t)
    | ⟨8, _⟩ => (cfg0.win 8).fill (grid0.coords t) (Dat.unnamed (cfg := cfg0) 8 t) (iblk m c 8 t)
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
  Φ _ := Pipeline.ΦA spec0 c
  q _ := fullShare
  owed _ := 0

/-- The proof data's arrays are the contents the region is entered with. -/
theorem A_eq (c : Dev nD) (w : Fin cfg0.W) : (dats m 0 c).A w = V m c (Pipeline.arrRef spec0 w) := by
  dsimp only [dats]

/-! What each input's buffer holds before the body and is left at. -/

theorem before0_0 (c : Dev nD) (t : Fin cfg0.N) (d) :
    (dats m 0 c).before 0 t d = (cfg0.win 0).fill (grid0.coords t) d (iblk m c 0 t) := by
  unfold Dat.before; rw [if_pos (fetch0_0 t)]; rfl
theorem leaves0_0 (c : Dev nD) (t : Fin cfg0.N) :
    (dats m 0 c).leaves 0 t = iprop(∃ d, owns (c : Thread nD τ) (ms0_0 t) fullShare ((cfg0.win 0).fill (grid0.coords t) d (iblk m c 0 t))) := by
  unfold Dat.leaves; rw [liveAt0_0 t]
  show iprop(∃ d, owns (c : Thread nD τ) (ms0_0 t) fullShare ((cfg0.win 0).fill (grid0.coords t) d ((cfg0.win 0).cut (grid0.coords t) ((cfg0.win 0).fill (grid0.coords t) (Dat.unnamed (cfg := cfg0) 0 t) (iblk m c 0 t))))) = _
  simp only [Window.cut_fill]
theorem before0_1 (c : Dev nD) (t : Fin cfg0.N) (d) : (dats m 0 c).before 1 t d = iblk m c 1 t :=
  before0_1_of m (dats m 0 c) (A_eq m c 1) (fun _ => rfl) t d
theorem leaves0_1 (c : Dev nD) (t : Fin cfg0.N) :
    (dats m 0 c).leaves 1 t = owns (c : Thread nD τ) (ms0_1 t) fullShare (iblk m c 1 t) := by
  unfold Dat.leaves; rw [liveAt0_1 t]; rfl
theorem before0_2 (c : Dev nD) (t : Fin cfg0.N) (d) : (dats m 0 c).before 2 t d = iblk m c 2 t :=
  before0_2_of m (dats m 0 c) (A_eq m c 2) (fun _ => rfl) t d
theorem leaves0_2 (c : Dev nD) (t : Fin cfg0.N) :
    (dats m 0 c).leaves 2 t = owns (c : Thread nD τ) (ms0_2 t) fullShare (iblk m c 2 t) := by
  unfold Dat.leaves; rw [liveAt0_2 t]; rfl
theorem before0_3 (c : Dev nD) (t : Fin cfg0.N) (d) :
    (dats m 0 c).before 3 t d = (cfg0.win 3).fill (grid0.coords t) d (iblk m c 3 t) := by
  unfold Dat.before; rw [if_pos (fetch0_3 t)]; rfl
theorem leaves0_3 (c : Dev nD) (t : Fin cfg0.N) :
    (dats m 0 c).leaves 3 t = iprop(∃ d, owns (c : Thread nD τ) (ms0_3 t) fullShare ((cfg0.win 3).fill (grid0.coords t) d (iblk m c 3 t))) := by
  unfold Dat.leaves; rw [liveAt0_3 t]
  show iprop(∃ d, owns (c : Thread nD τ) (ms0_3 t) fullShare ((cfg0.win 3).fill (grid0.coords t) d ((cfg0.win 3).cut (grid0.coords t) ((cfg0.win 3).fill (grid0.coords t) (Dat.unnamed (cfg := cfg0) 3 t) (iblk m c 3 t))))) = _
  simp only [Window.cut_fill]
theorem before0_4 (c : Dev nD) (t : Fin cfg0.N) (d) :
    (dats m 0 c).before 4 t d = (cfg0.win 4).fill (grid0.coords t) d (iblk m c 4 t) := by
  unfold Dat.before; rw [if_pos (fetch0_4 t)]; rfl
theorem leaves0_4 (c : Dev nD) (t : Fin cfg0.N) :
    (dats m 0 c).leaves 4 t = iprop(∃ d, owns (c : Thread nD τ) (ms0_4 t) fullShare ((cfg0.win 4).fill (grid0.coords t) d (iblk m c 4 t))) := by
  unfold Dat.leaves; rw [liveAt0_4 t]
  show iprop(∃ d, owns (c : Thread nD τ) (ms0_4 t) fullShare ((cfg0.win 4).fill (grid0.coords t) d ((cfg0.win 4).cut (grid0.coords t) ((cfg0.win 4).fill (grid0.coords t) (Dat.unnamed (cfg := cfg0) 4 t) (iblk m c 4 t))))) = _
  simp only [Window.cut_fill]
theorem before0_5 (c : Dev nD) (t : Fin cfg0.N) (d) : (dats m 0 c).before 5 t d = iblk m c 5 t :=
  before0_5_of m (dats m 0 c) (A_eq m c 5) (fun _ => rfl) t d
theorem leaves0_5 (c : Dev nD) (t : Fin cfg0.N) :
    (dats m 0 c).leaves 5 t = owns (c : Thread nD τ) (ms0_5 t) fullShare (iblk m c 5 t) := by
  unfold Dat.leaves; rw [liveAt0_5 t]; rfl
theorem before0_6 (c : Dev nD) (t : Fin cfg0.N) (d) :
    (dats m 0 c).before 6 t d = (cfg0.win 6).fill (grid0.coords t) d (iblk m c 6 t) := by
  unfold Dat.before; rw [if_pos (fetch0_6 t)]; rfl
theorem leaves0_6 (c : Dev nD) (t : Fin cfg0.N) :
    (dats m 0 c).leaves 6 t = iprop(∃ d, owns (c : Thread nD τ) (ms0_6 t) fullShare ((cfg0.win 6).fill (grid0.coords t) d (iblk m c 6 t))) := by
  unfold Dat.leaves; rw [liveAt0_6 t]
  show iprop(∃ d, owns (c : Thread nD τ) (ms0_6 t) fullShare ((cfg0.win 6).fill (grid0.coords t) d ((cfg0.win 6).cut (grid0.coords t) ((cfg0.win 6).fill (grid0.coords t) (Dat.unnamed (cfg := cfg0) 6 t) (iblk m c 6 t))))) = _
  simp only [Window.cut_fill]
theorem before0_7 (c : Dev nD) (t : Fin cfg0.N) (d) :
    (dats m 0 c).before 7 t d = (cfg0.win 7).fill (grid0.coords t) d (iblk m c 7 t) := by
  unfold Dat.before; rw [if_pos (fetch0_7 t)]; rfl
theorem leaves0_7 (c : Dev nD) (t : Fin cfg0.N) :
    (dats m 0 c).leaves 7 t = iprop(∃ d, owns (c : Thread nD τ) (ms0_7 t) fullShare ((cfg0.win 7).fill (grid0.coords t) d (iblk m c 7 t))) := by
  unfold Dat.leaves; rw [liveAt0_7 t]
  show iprop(∃ d, owns (c : Thread nD τ) (ms0_7 t) fullShare ((cfg0.win 7).fill (grid0.coords t) d ((cfg0.win 7).cut (grid0.coords t) ((cfg0.win 7).fill (grid0.coords t) (Dat.unnamed (cfg := cfg0) 7 t) (iblk m c 7 t))))) = _
  simp only [Window.cut_fill]
theorem before0_8 (c : Dev nD) (t : Fin cfg0.N) (d) :
    (dats m 0 c).before 8 t d = (cfg0.win 8).fill (grid0.coords t) d (iblk m c 8 t) := by
  unfold Dat.before; rw [if_pos (fetch0_8 t)]; rfl
theorem leaves0_8 (c : Dev nD) (t : Fin cfg0.N) :
    (dats m 0 c).leaves 8 t = iprop(∃ d, owns (c : Thread nD τ) (ms0_8 t) fullShare ((cfg0.win 8).fill (grid0.coords t) d (iblk m c 8 t))) := by
  unfold Dat.leaves; rw [liveAt0_8 t]
  show iprop(∃ d, owns (c : Thread nD τ) (ms0_8 t) fullShare ((cfg0.win 8).fill (grid0.coords t) d ((cfg0.win 8).cut (grid0.coords t) ((cfg0.win 8).fill (grid0.coords t) (Dat.unnamed (cfg := cfg0) 8 t) (iblk m c 8 t))))) = _
  simp only [Window.cut_fill]

set_option maxHeartbeats 4000000 in
/-- The body at any point, from the buffers as the pipeline hands them over to the buffers as it takes them back. -/
theorem sound_body (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X))
    ⊢ wp frame (wpE (defs₀ (F := F)) Variants.none c none) Set.univ (bodyAt0 t) (fun _ =>
    iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X))) := by
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  simp only [before0_0, leaves0_0, before0_1, leaves0_1, before0_2, leaves0_2, before0_3, leaves0_3, before0_4, leaves0_4, before0_5, leaves0_5, before0_6, leaves0_6, before0_7, leaves0_7, before0_8, leaves0_8]
  have hc : ¬(cond0_0 (grid0.coords t) ∧ cond0_1 (grid0.coords t)) := fun h => by
    have h0 := (hcond0_0 t).mp h.1
    have h1 := (hcond0_1 t).mp h.2
    omega
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  iapply (body_any c (grid0.coords t) _ _ _ _ _ _ _ _ _ _ _ _ _ _ _ _ _ _ _ _ _ _ _ _ _ _ _ _ _ _ _ _ _ _ _ _ hc _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexists _; iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexists _; iexact H7
  isplitl [H8]; · iexists _; iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, with the outputs forgotten. -/
theorem body_obligation (c : Dev nD) :
    Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run: every input array unchanged, nothing stated of the outputs, and every semaphore counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- A run that keeps the input arrays and the buffers no host operation writes leaves the arguments as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c)⟩) h

/-- The frame of the kernel, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (fun c => (dats m 0 c).toRForget forgets0) (A_eq m)
      ((θ_run defs _ _).mono (fun _ h => h.1) (run_main_quiescent m ρ))) ((θ_run defs _ _).mono (fun _ h => h.2) (run_main_quiescent m ρ))

end Cert.Kernel.Body

end
-- ==== Proof.KernelIdealBody.Runs.lean ====
/-
  What the runs of the kernel's body share: the conditions of its two `pl.when` in closed form over the grid points,
  where the output windows are idle, the staging and scratch memrefs, and the region's invariant with the scratch
  operands spelled as memrefs.
-/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 23 = 0 :=
  (fun t => by
    have ht : t.val < 23 := Nat.lt_of_lt_of_eq t.isLt N_0
    have e0 : (grid0.coords t 0).val = t.val / 1 % 23 := Pipeline.Grid.coords_val t 0 (by decide) rfl
    simp only [cond0_0, e0]
    word_cmp
   : ∀ t : Fin grid0.N, cond0_0 (grid0.coords t) ↔ t.val % 23 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 23 = 22 :=
  (fun t => by
    have ht : t.val < 23 := Nat.lt_of_lt_of_eq t.isLt N_0
    have e0 : (grid0.coords t 0).val = t.val / 1 % 23 := Pipeline.Grid.coords_val t 0 (by decide) rfl
    simp only [cond0_1, k0_cond2, e0]
    word_cmp
   : ∀ t : Fin grid0.N, cond0_1 (grid0.coords t) ↔ t.val % 23 = 22)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 11 is never idle (an output stored at every point, under no condition). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 9, through which its contents are stated (`View.read_writes_of_cover`: the
    choice does not matter). -/
abbrev VO0_9 : View sig .tc .vmem S2048x2816 .bf16 := (Memref.whole cc0_stg9_0 : Memref sig .tc .vmem S2048x2816 .bf16).view
/-- One staging buffer of output window 10, through which its contents are stated (`View.read_writes_of_cover`: the
    choice does not matter). -/
abbrev VO0_10 : View sig .tc .vmem S24x2816 .bf16 := (Memref.whole cc0_stg10_0 : Memref sig .tc .vmem S24x2816 .bf16).view
/-- One staging buffer of output window 11, through which its contents are stated (`View.read_writes_of_cover`: the
    choice does not matter). -/
abbrev VO0_11 : View sig .tc .vmem S24x256 .bf16 := (Memref.whole cc0_stg11_0 : Memref sig .tc .vmem S24x256 .bf16).view
/-- One staging buffer of output window 12, through which its contents are stated (`View.read_writes_of_cover`: the
    choice does not matter). -/
abbrev VO0_12 : View sig .tc .vmem S1x256 .f32 := (Memref.whole cc0_stg12_0 : Memref sig .tc .vmem S1x256 .f32).view
/-- Each window's current staging memref at point `t`, spelled as the pipeline passes it (`bodyAt0`), and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2816 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2816 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S22x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x2816 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x2816 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S24x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S2048x2816 .f32 := Memref.whole cc0_scratch0
abbrev scM0_1 : Memref sig .tc .vmem S256x2816 .bf16 := Memref.whole cc0_scratch1
abbrev scM0_2 : Memref sig .tc .vmem S2048x24 .f32 := Memref.whole cc0_scratch2
abbrev scM0_3 : Memref sig .tc .vmem S2048x24 .bf16 := Memref.whole cc0_scratch3
abbrev scM0_4 : Memref sig .tc .vmem S2048x256 .bf16 := Memref.whole cc0_scratch4
/-- The scratch `arg14` the kernel carries between points, as a view: what it holds is stated through it. -/
abbrev VS0_0 : View sig .tc .vmem S2048x2816 .f32 := scM0_0.view
/-- The scratch `arg16` the kernel carries between points, as a view: what it holds is stated through it. -/
abbrev VS0_2 : View sig .tc .vmem S2048x24 .f32 := scM0_2.view
/-- The scratch `arg17` the kernel carries between points, as a view: what it holds is stated through it. -/
abbrev VS0_3 : View sig .tc .vmem S2048x24 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Body

end
-- ==== Proof.KernelIdealBody.RunA.lean ====
/-
  The whole-body run of the kernel at the first grid point (the accumulators are zeroed and the projection `x·A` is computed): the body's triple by
  `sl_exec` over the printed program's skeleton; the pieces each buffer ends with are the witness.
-/
module

public import proofs.«01_k».proof.Proof.KernelIdealBody.Runs

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE A (`scf.if` 0 taken, `scf.if` 1 not taken: points 0), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc0 : cond0_0 i) (hc1 : ¬cond0_1 i)
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32) :
    Σ' (L9 : List (View.Piece (Elt F) S2048x2816 .bf16)), Σ' (L10 : List (View.Piece (Elt F) S24x2816 .bf16)), Σ' (L11 : List (View.Piece (Elt F) S24x256 .bf16)), Σ' (L12 : List (View.Piece (Elt F) S1x256 .f32)), Σ' (LS0 : List (View.Piece (Elt F) S2048x2816 .f32)), Σ' (LS2 : List (View.Piece (Elt F) S2048x24 .f32)), Σ' (LS3 : List (View.Piece (Elt F) S2048x24 .bf16)), Σ' (LT1 : List (View.Piece (Elt F) S256x2816 .bf16)), { LT4 : List (View.Piece (Elt F) S2048x256 .bf16) //
      ∀ (xi9 : Vec F S2048x2816 .bf16) (xi10 : Vec F S24x2816 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LT4)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, ?_, ?_, ?_, ?_, fun xi9 xi10 E K => ?run⟩
  case run =>
    simp only [cc0_dora_bwd_eq_skeleton]; unfold cc0_dora_bwd_skel
    simp only [k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    iexists _; iexact HS4

end Cert.KernelIdeal.Body

end
-- ==== Proof.KernelIdealBody.RunB.lean ====
/-
  The whole-body run of the kernel at a middle grid point: the body's triple by
  `sl_exec` over the printed program's skeleton; the pieces each buffer ends with are the witness.
-/
module

public import proofs.«01_k».proof.Proof.KernelIdealBody.RunA

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 21: 21 of 23), WITH the
    proof that on whole staging memrefs — the inputs' at their contents, the outputs it leaves idle (9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc0 : ¬cond0_0 i) (hc1 : ¬cond0_1 i)
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32) (xs0 : Vec F S2048x2816 .f32) (xs2 : Vec F S2048x24 .f32) (xs3 : Vec F S2048x24 .bf16) :
    Σ' (L9 : List (View.Piece (Elt F) S2048x2816 .bf16)), Σ' (L10 : List (View.Piece (Elt F) S24x2816 .bf16)), Σ' (L11 : List (View.Piece (Elt F) S24x256 .bf16)), Σ' (L12 : List (View.Piece (Elt F) S1x256 .f32)), Σ' (LS0 : List (View.Piece (Elt F) S2048x2816 .f32)), Σ' (LS2 : List (View.Piece (Elt F) S2048x24 .f32)), Σ' (LS3 : List (View.Piece (Elt F) S2048x24 .bf16)), Σ' (LT1 : List (View.Piece (Elt F) S256x2816 .bf16)), { LT4 : List (View.Piece (Elt F) S2048x256 .bf16) //
      ∀ (xi9 : Vec F S2048x2816 .bf16) (xi10 : Vec F S24x2816 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare xs3 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LT4)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, ?_, [], ?_, ?_, fun xi9 xi10 E K => ?run⟩
  case run =>
    simp only [cc0_dora_bwd_eq_skeleton]; unfold cc0_dora_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%ds1, %fs1, -, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg16.eq_unread hfs2; obtain rfl := harg17.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.KernelIdeal.Body

end
-- ==== Proof.KernelIdealBody.RunC.lean ====
/-
  The whole-body run of the kernel at the last grid point (the accumulated results are stored): the body's triple by
  `sl_exec` over the printed program's skeleton; the pieces each buffer ends with are the witness.
-/
module

public import proofs.«01_k».proof.Proof.KernelIdealBody.RunB

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 21), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc0 : ¬cond0_0 i) (hc1 : cond0_1 i)
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32) (xs0 : Vec F S2048x2816 .f32) (xs2 : Vec F S2048x24 .f32) (xs3 : Vec F S2048x24 .bf16) :
    Σ' (L9 : List (View.Piece (Elt F) S2048x2816 .bf16)), Σ' (L10 : List (View.Piece (Elt F) S24x2816 .bf16)), Σ' (L11 : List (View.Piece (Elt F) S24x256 .bf16)), Σ' (L12 : List (View.Piece (Elt F) S1x256 .f32)), Σ' (LS0 : List (View.Piece (Elt F) S2048x2816 .f32)), Σ' (LS2 : List (View.Piece (Elt F) S2048x24 .f32)), Σ' (LS3 : List (View.Piece (Elt F) S2048x24 .bf16)), Σ' (LT1 : List (View.Piece (Elt F) S256x2816 .bf16)), { LT4 : List (View.Piece (Elt F) S2048x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare xs3 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LT4)) -∗ K ⟨⟩))
          ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, [], ?_, ?_, fun E K => ?run⟩
  case run =>
    simp only [cc0_dora_bwd_eq_skeleton]; unfold cc0_dora_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%fs0, %hfs0, HS0⟩, ⟨%ds1, %fs1, -, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hfs0; obtain rfl := harg16.eq_unread hfs2; obtain rfl := harg17.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.KernelIdeal.Body

end
-- ==== Proof.KernelIdealBody.Any.lean ====
/-
  The body of the kernel, run at any grid point on any contents: it terminates without fault and hands every buffer
  back, the inputs' as they were, the outputs' and the scratch at some contents. Nothing is said of the values here.
-/
module

public import proofs.«01_k».proof.Proof.KernelIdealBody.RunC
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer held at given cells is owned at what those cells read. -/
theorem owns_some (c : Dev nD) {S : Shape} {e : EltTy} (a : Memref sig .tc .vmem S e) (f : a.view.ty.Contents (Elt F)) :
    iprop(a.view.loc (c : Thread nD τ) ↦[a.view.set]{fullShare} f) ⊢ (iprop(∃ d, owns (c : Thread nD τ) a fullShare d) : sProp 𝕄) := by
  unfold owns
  iintro H
  iexists _; iexists f
  isplitr
  · ipureintro; rfl
  iexact H

set_option maxHeartbeats 1600000 in
/-- The body's triple without values: on whole staging memrefs, the inputs' at contents `x·`, the outputs' and the
    scratch at anything, the body runs to the continuation holding the inputs' as they were and the others at something.
    The three runs are the three cases of the two `pl.when`. -/
theorem body_any (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole) (hc : ¬(cond0_0 i ∧ cond0_1 i))
    (x0 : Vec F S2048x256 .bf16) (x1 : Vec F S2048x2816 .fp8e4m3) (x2 : Vec F S2048x1 .f32) (x3 : Vec F S128x2816 .i8) (x4 : Vec F S22x256 .bf16) (x5 : Vec F S24x2816 .bf16) (x6 : Vec F S24x256 .bf16) (x7 : Vec F S1x256 .f32) (x8 : Vec F S1x256 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc0 : cond0_0 i <;> by_cases hc1 : cond0_1 i
  · exact absurd ⟨hc0, hc1⟩ hc
  · iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hk⟩
    iapply (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.2.2.2 d10 d11 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iintro ⟨H1, H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; iexact H10
    isplitl [H11]
    · iexists _; iexact H11
    isplitl [H12]
    · iapply (owns_some c arg12 _); iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    isplitl [H17]
    · iapply (owns_some c arg17 _); iexact H17
    · iapply (owns_some c arg18 _); iexact H18
  · iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hk⟩
    iapply (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 d14 d16 d17).2.2.2.2.2.2.2.2.2 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    isplitl [H15]; · iexists _; iexact H15
    isplitl [H16]; · iexact H16
    isplitl [H17]; · iexact H17
    isplitl [H18]; · iexists _; iexact H18
    iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, H17, ⟨%f18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iapply (owns_some c arg10 _); iexact H10
    isplitl [H11]
    · iapply (owns_some c arg11 _); iexact H11
    isplitl [H12]
    · iapply (owns_some c arg12 _); iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    isplitl [H17]
    · iexists _; iexact H17
    · iapply (owns_some c arg18 _); iexact H18
  · iintro ⟨H1, H2, H3, H4, H5, H6, H7, H8, H9, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, Hk⟩
    iapply (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 d14 d16 d17).2.2.2.2.2.2.2.2.2 d10 d11 E K
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexists _; iexact H15
    isplitl [H16]; · iexact H16
    isplitl [H17]; · iexact H17
    isplitl [H18]; · iexists _; iexact H18
    iintro ⟨H1, H2, H3, H4, H5, H6, H7, H8, H9, H10, H11, ⟨%f12, H12⟩, ⟨%f13, H13⟩, ⟨%f14, H14⟩, ⟨%f15, H15⟩, ⟨%f16, H16⟩, H17, ⟨%f18, H18⟩⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; iexact H10
    isplitl [H11]
    · iexists _; iexact H11
    isplitl [H12]
    · iapply (owns_some c arg12 _); iexact H12
    isplitl [H13]
    · iapply (owns_some c arg13 _); iexact H13
    isplitl [H14]
    · iapply (owns_some c arg14 _); iexact H14
    isplitl [H15]
    · iapply (owns_some c arg15 _); iexact H15
    isplitl [H16]
    · iapply (owns_some c arg16 _); iexact H16
    isplitl [H17]
    · iexists _; iexact H17
    · iapply (owns_some c arg18 _); iexact H18

end Cert.KernelIdeal.Body

end
-- ==== Proof.KernelIdealBody.Frame.lean ====
/-
  The frame of the kernel: it terminates without fault from any memory with zero counters, leaves its arguments as it
  found them and every semaphore counter at zero. The outputs are forgotten (nothing is said of what they hold) and the
  scratch is held at some contents, so one triple without values (`body_any`) is all the body has to satisfy. Six of the
  inputs' blocks overhang their arrays at the last grid point: there a staging buffer holds the block filled out with
  words nothing names.
-/
module

public import proofs.«01_k».proof.Proof.KernelIdealBody.Any
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v10, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The output windows, of which nothing is stated. -/
def forgets0 : Fin 13 → Bool := fun w => w.val == 9 || w.val == 10 || w.val == 11 || w.val == 12

/-- The proof data: the arrays as the region finds them; after the body each input's buffer at its block (a block that may
    overhang its array filled out with unnamed words), the outputs' unnamed; every scratch at some contents throughout. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (grid0.coords t) (Dat.unnamed (cfg := cfg0) 0 t) (iblk m c 0 t)
    | ⟨1, _⟩ => iblk m c 1 t
    | ⟨2, _⟩ => iblk m c 2 t
    | ⟨3, _⟩ => (cfg0.win 3).fill (grid0.coords t) (Dat.unnamed (cfg := cfg0) 3 t) (iblk m c 3 t)
    | ⟨4, _⟩ => (cfg0.win 4).fill (grid0.coords t) (Dat.unnamed (cfg := cfg0) 4 t) (iblk m c 4 t)
    | ⟨5, _⟩ => iblk m c 5 t
    | ⟨6, _⟩ => (cfg0.win 6).fill (grid0.coords t) (Dat.unnamed (cfg := cfg0) 6 t) (iblk m c 6 t)
    | ⟨7, _⟩ => (cfg0.win 7).fill (grid0.coords t) (Dat.unnamed (cfg := cfg0) 7 t) (iblk m c 7 t)
    | ⟨8, _⟩ => (cfg0.win 8).fill (grid0.coords t) (Dat.unnamed (cfg := cfg0) 8 t) (iblk m c 8 t)
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
  Φ _ := Pipeline.ΦA spec0 c
  q _ := fullShare
  owed _ := 0

/-- The proof data's arrays are the contents the region is entered with. -/
theorem A_eq (c : Dev nD) (w : Fin cfg0.W) : (dats m 0 c).A w = V m c (Pipeline.arrRef spec0 w) := by
  dsimp only [dats]

/-! What each input's buffer holds before the body and is left at. -/

theorem before0_0 (c : Dev nD) (t : Fin cfg0.N) (d) :
    (dats m 0 c).before 0 t d = (cfg0.win 0).fill (grid0.coords t) d (iblk m c 0 t) := by
  unfold Dat.before; rw [if_pos (fetch0_0 t)]; rfl
theorem leaves0_0 (c : Dev nD) (t : Fin cfg0.N) :
    (dats m 0 c).leaves 0 t = iprop(∃ d, owns (c : Thread nD τ) (ms0_0 t) fullShare ((cfg0.win 0).fill (grid0.coords t) d (iblk m c 0 t))) := by
  unfold Dat.leaves; rw [liveAt0_0 t]
  show iprop(∃ d, owns (c : Thread nD τ) (ms0_0 t) fullShare ((cfg0.win 0).fill (grid0.coords t) d ((cfg0.win 0).cut (grid0.coords t) ((cfg0.win 0).fill (grid0.coords t) (Dat.unnamed (cfg := cfg0) 0 t) (iblk m c 0 t))))) = _
  simp only [Window.cut_fill]
theorem before0_1 (c : Dev nD) (t : Fin cfg0.N) (d) : (dats m 0 c).before 1 t d = iblk m c 1 t :=
  before0_1_of m (dats m 0 c) (A_eq m c 1) (fun _ => rfl) t d
theorem leaves0_1 (c : Dev nD) (t : Fin cfg0.N) :
    (dats m 0 c).leaves 1 t = owns (c : Thread nD τ) (ms0_1 t) fullShare (iblk m c 1 t) := by
  unfold Dat.leaves; rw [liveAt0_1 t]; rfl
theorem before0_2 (c : Dev nD) (t : Fin cfg0.N) (d) : (dats m 0 c).before 2 t d = iblk m c 2 t :=
  before0_2_of m (dats m 0 c) (A_eq m c 2) (fun _ => rfl) t d
theorem leaves0_2 (c : Dev nD) (t : Fin cfg0.N) :
    (dats m 0 c).leaves 2 t = owns (c : Thread nD τ) (ms0_2 t) fullShare (iblk m c 2 t) := by
  unfold Dat.leaves; rw [liveAt0_2 t]; rfl
theorem before0_3 (c : Dev nD) (t : Fin cfg0.N) (d) :
    (dats m 0 c).before 3 t d = (cfg0.win 3).fill (grid0.coords t) d (iblk m c 3 t) := by
  unfold Dat.before; rw [if_pos (fetch0_3 t)]; rfl
theorem leaves0_3 (c : Dev nD) (t : Fin cfg0.N) :
    (dats m 0 c).leaves 3 t = iprop(∃ d, owns (c : Thread nD τ) (ms0_3 t) fullShare ((cfg0.win 3).fill (grid0.coords t) d (iblk m c 3 t))) := by
  unfold Dat.leaves; rw [liveAt0_3 t]
  show iprop(∃ d, owns (c : Thread nD τ) (ms0_3 t) fullShare ((cfg0.win 3).fill (grid0.coords t) d ((cfg0.win 3).cut (grid0.coords t) ((cfg0.win 3).fill (grid0.coords t) (Dat.unnamed (cfg := cfg0) 3 t) (iblk m c 3 t))))) = _
  simp only [Window.cut_fill]
theorem before0_4 (c : Dev nD) (t : Fin cfg0.N) (d) :
    (dats m 0 c).before 4 t d = (cfg0.win 4).fill (grid0.coords t) d (iblk m c 4 t) := by
  unfold Dat.before; rw [if_pos (fetch0_4 t)]; rfl
theorem leaves0_4 (c : Dev nD) (t : Fin cfg0.N) :
    (dats m 0 c).leaves 4 t = iprop(∃ d, owns (c : Thread nD τ) (ms0_4 t) fullShare ((cfg0.win 4).fill (grid0.coords t) d (iblk m c 4 t))) := by
  unfold Dat.leaves; rw [liveAt0_4 t]
  show iprop(∃ d, owns (c : Thread nD τ) (ms0_4 t) fullShare ((cfg0.win 4).fill (grid0.coords t) d ((cfg0.win 4).cut (grid0.coords t) ((cfg0.win 4).fill (grid0.coords t) (Dat.unnamed (cfg := cfg0) 4 t) (iblk m c 4 t))))) = _
  simp only [Window.cut_fill]
theorem before0_5 (c : Dev nD) (t : Fin cfg0.N) (d) : (dats m 0 c).before 5 t d = iblk m c 5 t :=
  before0_5_of m (dats m 0 c) (A_eq m c 5) (fun _ => rfl) t d
theorem leaves0_5 (c : Dev nD) (t : Fin cfg0.N) :
    (dats m 0 c).leaves 5 t = owns (c : Thread nD τ) (ms0_5 t) fullShare (iblk m c 5 t) := by
  unfold Dat.leaves; rw [liveAt0_5 t]; rfl
theorem before0_6 (c : Dev nD) (t : Fin cfg0.N) (d) :
    (dats m 0 c).before 6 t d = (cfg0.win 6).fill (grid0.coords t) d (iblk m c 6 t) := by
  unfold Dat.before; rw [if_pos (fetch0_6 t)]; rfl
theorem leaves0_6 (c : Dev nD) (t : Fin cfg0.N) :
    (dats m 0 c).leaves 6 t = iprop(∃ d, owns (c : Thread nD τ) (ms0_6 t) fullShare ((cfg0.win 6).fill (grid0.coords t) d (iblk m c 6 t))) := by
  unfold Dat.leaves; rw [liveAt0_6 t]
  show iprop(∃ d, owns (c : Thread nD τ) (ms0_6 t) fullShare ((cfg0.win 6).fill (grid0.coords t) d ((cfg0.win 6).cut (grid0.coords t) ((cfg0.win 6).fill (grid0.coords t) (Dat.unnamed (cfg := cfg0) 6 t) (iblk m c 6 t))))) = _
  simp only [Window.cut_fill]
theorem before0_7 (c : Dev nD) (t : Fin cfg0.N) (d) :
    (dats m 0 c).before 7 t d = (cfg0.win 7).fill (grid0.coords t) d (iblk m c 7 t) := by
  unfold Dat.before; rw [if_pos (fetch0_7 t)]; rfl
theorem leaves0_7 (c : Dev nD) (t : Fin cfg0.N) :
    (dats m 0 c).leaves 7 t = iprop(∃ d, owns (c : Thread nD τ) (ms0_7 t) fullShare ((cfg0.win 7).fill (grid0.coords t) d (iblk m c 7 t))) := by
  unfold Dat.leaves; rw [liveAt0_7 t]
  show iprop(∃ d, owns (c : Thread nD τ) (ms0_7 t) fullShare ((cfg0.win 7).fill (grid0.coords t) d ((cfg0.win 7).cut (grid0.coords t) ((cfg0.win 7).fill (grid0.coords t) (Dat.unnamed (cfg := cfg0) 7 t) (iblk m c 7 t))))) = _
  simp only [Window.cut_fill]
theorem before0_8 (c : Dev nD) (t : Fin cfg0.N) (d) :
    (dats m 0 c).before 8 t d = (cfg0.win 8).fill (grid0.coords t) d (iblk m c 8 t) := by
  unfold Dat.before; rw [if_pos (fetch0_8 t)]; rfl
theorem leaves0_8 (c : Dev nD) (t : Fin cfg0.N) :
    (dats m 0 c).leaves 8 t = iprop(∃ d, owns (c : Thread nD τ) (ms0_8 t) fullShare ((cfg0.win 8).fill (grid0.coords t) d (iblk m c 8 t))) := by
  unfold Dat.leaves; rw [liveAt0_8 t]
  show iprop(∃ d, owns (c : Thread nD τ) (ms0_8 t) fullShare ((cfg0.win 8).fill (grid0.coords t) d ((cfg0.win 8).cut (grid0.coords t) ((cfg0.win 8).fill (grid0.coords t) (Dat.unnamed (cfg := cfg0) 8 t) (iblk m c 8 t))))) = _
  simp only [Window.cut_fill]

set_option maxHeartbeats 4000000 in
/-- The body at any point, from the buffers as the pipeline hands them over to the buffers as it takes them back. -/
theorem sound_body (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X))
    ⊢ wp frame (wpE (defs₀ (F := F)) Variants.none c none) Set.univ (bodyAt0 t) (fun _ =>
    iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X))) := by
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  simp only [before0_0, leaves0_0, before0_1, leaves0_1, before0_2, leaves0_2, before0_3, leaves0_3, before0_4, leaves0_4, before0_5, leaves0_5, before0_6, leaves0_6, before0_7, leaves0_7, before0_8, leaves0_8]
  have hc : ¬(cond0_0 (grid0.coords t) ∧ cond0_1 (grid0.coords t)) := fun h => by
    have h0 := (hcond0_0 t).mp h.1
    have h1 := (hcond0_1 t).mp h.2
    omega
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  iapply (body_any c (grid0.coords t) _ _ _ _ _ _ _ _ _ _ _ _ _ _ _ _ _ _ _ _ _ _ _ _ _ _ _ _ _ _ _ _ _ _ _ _ hc _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexists _; iexact H0
  isplitl [H1]; · iexact H1
  isplitl [H2]; · iexact H2
  isplitl [H3]; · iexists _; iexact H3
  isplitl [H4]; · iexists _; iexact H4
  isplitl [H5]; · iexact H5
  isplitl [H6]; · iexists _; iexact H6
  isplitl [H7]; · iexists _; iexact H7
  isplitl [H8]; · iexists _; iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, with the outputs forgotten. -/
theorem body_obligation (c : Dev nD) :
    Pipeline.BodyObligationLoose (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run: every input array unchanged, nothing stated of the outputs, and every semaphore counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- A run that keeps the input arrays and the buffers no host operation writes leaves the arguments as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c)⟩) h

/-- The frame of the kernel, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (fun c => (dats m 0 c).toRForget forgets0) (A_eq m)
      ((θ_run defs _ _).mono (fun _ h => h.1) (run_main_quiescent m ρ))) ((θ_run defs _ _).mono (fun _ h => h.2) (run_main_quiescent m ρ))

end Cert.KernelIdeal.Body

end
-- ==== Proof.Value.Spec.lean ====
/-
  The mathematics of the problem over the extended reals, in plain functions of row and column: the adapted weight `V`,
  the scaled output gradient `D` and the four gradients, and the partial sums that a walk of the output columns in
  blocks of 256 holds.
-/
module

public import Idealize.ShloMosaic.Lib.Pointwise
public import Idealize.ShloMosaic.Lib.WordCmp
public import Idealize.ShloMosaic.Lib.Tactic

@[expose] public section

noncomputable section

namespace Cert.Value
open Idealize.ShloMosaic Idealize.ShloMosaic.WordCmp

/-- The nine arguments as functions of row and column. -/
structure In where
  /-- the output gradient, tokens by output columns -/
  dy : Fin 2048 → Fin 5760 → EReal
  /-- the activations' codes -/
  x : Fin 2048 → Fin 2816 → EReal
  /-- the activations' scale of each token -/
  xs : Fin 2048 → EReal
  /-- the packed weight: two four-bit codes to a byte -/
  w : Fin 2816 → Fin 2880 → BitVec 8
  /-- the weight's scales, of a group of 128 rows and a column -/
  ws : Fin 22 → Fin 5760 → EReal
  /-- the first low-rank factor -/
  a : Fin 2816 → Fin 24 → EReal
  /-- the second low-rank factor -/
  b : Fin 24 → Fin 5760 → EReal
  /-- the magnitudes -/
  mag : Fin 5760 → EReal
  /-- the columns' norms -/
  cn : Fin 5760 → EReal

/-- The arguments as the programs take them: the two batches of 1024 tokens are the 2048 tokens in order. -/
def In.of (a0 : (⟨3, ![2, 1024, 5760]⟩ : Shape).Idx → EReal) (a1 : (⟨3, ![2, 1024, 2816]⟩ : Shape).Idx → EReal)
    (a2 : (⟨2, ![2, 1024]⟩ : Shape).Idx → EReal) (a3 : (⟨2, ![2816, 2880]⟩ : Shape).Idx → BitVec 8)
    (a4 : (⟨2, ![22, 5760]⟩ : Shape).Idx → EReal) (a5 : (⟨2, ![2816, 24]⟩ : Shape).Idx → EReal)
    (a6 : (⟨2, ![24, 5760]⟩ : Shape).Idx → EReal) (a7 a8 : (⟨1, ![5760]⟩ : Shape).Idx → EReal) : In where
  dy i o := a0 (ix3 (⟨i.val / 1024, by have := i.2; omega⟩ : Fin 2) (⟨i.val % 1024, by omega⟩ : Fin 1024) o)
  x i c := a1 (ix3 (⟨i.val / 1024, by have := i.2; omega⟩ : Fin 2) (⟨i.val % 1024, by omega⟩ : Fin 1024) c)
  xs i := a2 (ix2 (⟨i.val / 1024, by have := i.2; omega⟩ : Fin 2) (⟨i.val % 1024, by omega⟩ : Fin 1024))
  w c p := a3 (ix2 c p)
  ws k o := a4 (ix2 k o)
  a c r := a5 (ix2 c r)
  b r o := a6 (ix2 r o)
  mag o := a7 (ix1 o)
  cn o := a8 (ix1 o)

/-- The number that the f32 word of one half denotes. -/
def half : EReal := Ideal.ofBits .f32 1056964608#32

/-- A four-bit code as a number: the low four bits of a word, sign-extended. -/
def nib (u : BitVec 32) : EReal :=
  FloatOps.sitofp (F := Ideal) .bf16 (IntOp.subi (IntOp.xori (IntOp.andi u 15#32) 8#32) 8#32)

/-- The code of a byte that belongs to output column `o`: the low one of an even column, the high one of an odd one. -/
def code (o : ℕ) (u : BitVec 8) : EReal :=
  if o % 2 = 1 then nib (IntOp.shrsi ArithUnit.vector (BitVec.setWidth 32 u) 4#32) else nib (BitVec.setWidth 32 u)

variable (I : In)

/-- The adapted weight at output column `o` and input column `c`. -/
def V (o : Fin 5760) (c : Fin 2816) : EReal :=
  code o (I.w c ⟨o / 2, by have := o.2; omega⟩) * I.ws ⟨c / 128, by have := c.2; omega⟩ o
    + half * ∑ r, I.b r o * I.a c r

/-- The scaled output gradient. -/
def D (i : Fin 2048) (o : Fin 5760) : EReal := I.dy i o * Ideal.div (I.mag o) (I.cn o)

/-- The activations' gradient. -/
def DX (i : Fin 2048) (c : Fin 2816) : EReal := ∑ o, D I i o * V I o c

/-- The scaled gradient through the second low-rank factor. -/
def H (i : Fin 2048) (r : Fin 24) : EReal := ∑ o, D I i o * I.b r o

/-- The activations through the first low-rank factor. -/
def XA (i : Fin 2048) (r : Fin 24) : EReal := (∑ c, I.x i c * I.a c r) * I.xs i

/-- The first factor's gradient, transposed. -/
def DA (r : Fin 24) (c : Fin 2816) : EReal := half * ∑ i, H I i r * (I.x i c * I.xs i)

/-- The second factor's gradient. -/
def DB (r : Fin 24) (o : Fin 5760) : EReal := half * ∑ i, XA I i r * D I i o

/-- The activations through the adapted weight. -/
def XV (i : Fin 2048) (o : Fin 5760) : EReal := ∑ c, I.x i c * V I o c

/-- The magnitudes' gradient: the sum divided once. -/
def DM (o : Fin 5760) : EReal := Ideal.div (∑ i, I.dy i o * (XV I i o * I.xs i)) (I.cn o)

/-- A function of the output columns, zero past the last. -/
def msk (f : Fin 5760 → EReal) (n : ℕ) : EReal := if h : n < 5760 then f ⟨n, h⟩ else 0

theorem msk_lt (f : Fin 5760 → EReal) {n : ℕ} (h : n < 5760) : msk f n = f ⟨n, h⟩ := dif_pos h

theorem msk_ge (f : Fin 5760 → EReal) {n : ℕ} (h : ¬n < 5760) : msk f n = 0 := dif_neg h

theorem msk_mul (f g : Fin 5760 → EReal) (n : ℕ) : msk f n * msk g n = msk (fun o => f o * g o) n := by
  unfold msk; split <;> simp

theorem msk_of (f : Fin 5760 → EReal) (o : Fin 5760) : msk f o = f o := msk_lt f o.2

/-- The sum of a masked function over the first `t` blocks of 256 columns. -/
def part (f : Fin 5760 → EReal) (t : ℕ) : EReal := ∑ n ∈ Finset.range (256 * t), msk f n

theorem part_zero (f : Fin 5760 → EReal) : part f 0 = 0 := by simp [part]

/-- One block more. -/
theorem part_succ (f : Fin 5760 → EReal) (t : ℕ) :
    part f (t + 1) = part f t + ∑ o : Fin 256, msk f (256 * t + o) := by
  unfold part
  rw [Nat.mul_succ, Finset.sum_range_add, Finset.sum_range (n := 256)]

/-- All blocks: the sum over the columns. -/
theorem part_all (f : Fin 5760 → EReal) : part f 23 = ∑ o, f o := by
  have h : (256 * 23) = 5760 + 128 := rfl
  unfold part
  rw [h, Finset.sum_range_add, Finset.sum_range (n := 5760)]
  rw [Finset.sum_eq_zero (s := Finset.range 128), add_zero]
  · exact Finset.sum_congr rfl fun o _ => msk_of f o
  · intro n _
    exact msk_ge f (by omega)

/-- The column a block's place stands for is inside the array exactly where the compared word says so. -/
theorem word_valid {α : Type} (t : ℕ) (ht : t < 23) (o : ℕ) (ho : o < 256) (p q : α) :
    Scalar.select (IntOp.cmpi .slt (IntOp.addi (Scalar.muli (BitVec.ofNat 32 t) 256#32) (BitVec.ofNat 32 o)) 5760#32) p q
      = if 256 * t + o < 5760 then p else q := by
  have e : IntOp.addi (Scalar.muli (BitVec.ofNat 32 t) 256#32) (BitVec.ofNat 32 o) = BitVec.ofNat 32 (256 * t + o) := by
    show BitVec.ofNat 32 t * 256#32 + BitVec.ofNat 32 o = _
    apply BitVec.eq_of_toNat_eq
    simp [BitVec.toNat_add, BitVec.toNat_mul]
    omega
  rw [e, cmpi_slt_ofNat (by omega) (by omega)]
  unfold Scalar.select
  by_cases h : 256 * t + o < 5760 <;> simp [h]

/-- The parity of a row as the compared word says it. -/
theorem word_odd {α : Type} (o : ℕ) (ho : o < 256) (p q : α) :
    Scalar.select (IntOp.cmpi .eq (IntOp.andi (BitVec.ofNat 32 o) 1#32) 1#32) p q = if o % 2 = 1 then p else q := by
  have e : IntOp.cmpi .eq (IntOp.andi (BitVec.ofNat 32 o) 1#32) 1#32 = BitVec.ofBool (decide (o % 2 = 1)) := by
    rw [cmpi_eq_eq]
    congr 1
    apply decide_eq_decide.mpr
    show BitVec.ofNat 32 o &&& 1#32 = 1#32 ↔ _
    rw [← BitVec.toNat_inj]
    simp [BitVec.toNat_and]
  rw [e]
  unfold Scalar.select
  by_cases h : o % 2 = 1 <;> simp [h]

end Cert.Value

end
-- ==== Proof.Value.Block.lean ====
/-
  What one grid point computes from the blocks it loads, element by element: the masked blocks and one group of the
  transposed adapted weight.
-/
module

public import proofs.«01_k».proof.Proof.Gen.KernelIdeal.Skeleton
public import proofs.«01_k».proof.Proof.Value.Spec

@[expose] public section

set_option maxRecDepth 16384
noncomputable section

namespace Cert.KernelIdeal.Value
open Cert.KernelIdeal Cert.KernelIdeal.Gen Cert.Value
open Idealize.ShloMosaic Idealize.ShloMosaic.WordCmp

/-- The loaded blocks of grid point `t` are the arrays' there: the nine inputs' contents agree with the arguments at
    every place inside the arrays. -/
structure Blk (I : In) (t : ℕ) (x0 : Vec Ideal S2048x256 .bf16) (x1 : Vec Ideal S2048x2816 .fp8e4m3) (x2 : Vec Ideal S2048x1 .f32)
    (x3 : Vec Ideal S128x2816 .i8) (x4 : Vec Ideal S22x256 .bf16) (x5 : Vec Ideal S24x2816 .bf16)
    (x6 : Vec Ideal S24x256 .bf16) (x7 : Vec Ideal S1x256 .f32) (x8 : Vec Ideal S1x256 .f32) : Prop where
  h0 : ∀ (r : Fin 2048) (o : Fin 256) (h : 256 * t + o.val < 5760), x0 (ix2 r o) = I.dy r ⟨256 * t + o, h⟩
  h1 : ∀ (r : Fin 2048) (c : Fin 2816), x1 (ix2 r c) = I.x r c
  h2 : ∀ (r : Fin 2048), x2 (ix2 r (0 : Fin 1)) = I.xs r
  h3 : ∀ (p : Fin 128) (c : Fin 2816) (h : 128 * t + p.val < 2880), x3 (ix2 p c) = I.w c ⟨128 * t + p, h⟩
  h4 : ∀ (k : Fin 22) (o : Fin 256) (h : 256 * t + o.val < 5760), x4 (ix2 k o) = I.ws k ⟨256 * t + o, h⟩
  h5 : ∀ (r : Fin 24) (c : Fin 2816), x5 (ix2 r c) = I.a c r
  h6 : ∀ (r : Fin 24) (o : Fin 256) (h : 256 * t + o.val < 5760), x6 (ix2 r o) = I.b r ⟨256 * t + o, h⟩
  h7 : ∀ (o : Fin 256) (h : 256 * t + o.val < 5760), x7 (ix2 (0 : Fin 1) o) = I.mag ⟨256 * t + o, h⟩
  h8 : ∀ (o : Fin 256) (h : 256 * t + o.val < 5760), x8 (ix2 (0 : Fin 1) o) = I.cn ⟨256 * t + o, h⟩

/-- The mask at a place of the block, as a choice. -/
theorem mask_at {α : Type} (i : grid0.Coords) (o : Fin 256) (p q : α) :
    Scalar.select (k0_pay15 i (ix2 (0 : Fin 1) o)) p q = if 256 * (i 0).val + o.val < 5760 then p else q := by
  rw [← word_valid (i 0).val (i 0).2 o.val o.2]
  congr 1
  pointwise [k0_pay15]

/-- The masked block of the second low-rank factor. -/
theorem bt_at (i : grid0.Coords) (x6 : Vec Ideal S24x256 .bf16) (r : Fin 24) (o : Fin 256) :
    k0_pay16 i x6 (ix2 r o) = if 256 * (i 0).val + o.val < 5760 then x6 (ix2 r o) else (0 : EReal) := by
  rw [← mask_at i o]
  pointwise [k0_pay16]

/-- The masked quotient of magnitudes and norms. -/
theorem g_at (i : grid0.Coords) (x7 x8 : Vec Ideal S1x256 .f32) (o : Fin 256) :
    k0_pay17 i x7 x8 (ix2 (0 : Fin 1) o)
      = if 256 * (i 0).val + o.val < 5760 then Ideal.div (x7 (ix2 (0 : Fin 1) o)) (x8 (ix2 (0 : Fin 1) o)) else (0 : EReal) := by
  rw [← mask_at i o]
  pointwise [k0_pay17]

/-- The masked block of the weight's scales. -/
theorem ws_at (i : grid0.Coords) (x4 : Vec Ideal S22x256 .bf16) (k : Fin 22) (o : Fin 256) :
    k0_pay18 i x4 (ix2 k o) = if 256 * (i 0).val + o.val < 5760 then x4 (ix2 k o) else (0 : EReal) := by
  rw [← mask_at i o]
  pointwise [k0_pay18]

/-- One group's block of the transposed adapted weight, as the body computes it. -/
def vtg (k : ℕ) (hk : S22x256.Slices ![k, 0] S1x256) (v15 : FVec Ideal S24x256 .bf16) (v28 : FVec Ideal S22x256 .f32)
    (w : Vec Ideal S128x128 .i8) (a : Vec Ideal S24x128 .bf16) : FVec Ideal S256x128 .bf16 :=
  have v30 : IVec S128x128 8 := shapeCast S128x128 w shapeCasts_S128x128_S128x128
  have v31 : IVec S128x128 32 := extui 32 v30 natLt_8_32
  have v32 : IVec S128x1x128 32 := shapeCast S128x1x128 v31 shapeCasts_S128x128_S128x1x128
  have v33 : IVec S128x2x128 32 := broadcastTo S128x2x128 v32 broadcasts_S128x1x128_S128x2x128
  have v34 : IVec S256x128 32 := shapeCast S256x128 v33 shapeCasts_S128x2x128_S256x128
  have v35 : IVec S256x128 32 := iota .tc S256x128 32 [0] iota_S256x128_d0_w32
  have v36 : IVec S256x128 32 := broadcast S256x128 1#32
  have v37 : IVec S256x128 32 := andi v35 v36
  have v38 : IVec S256x128 32 := broadcast S256x128 1#32
  have v39 : IVec S256x128 1 := cmpi .eq v37 v38
  have v40 : IVec S256x128 32 := broadcast S256x128 4#32
  have v41 : IVec S256x128 32 := shrsi v34 v40
  have v42 : IVec S256x128 32 := select v39 v41 v34
  have v43 : IVec S256x128 32 := broadcast S256x128 15#32
  have v44 : IVec S256x128 32 := andi v42 v43
  have v45 : IVec S256x128 32 := broadcast S256x128 8#32
  have v46 : IVec S256x128 32 := xori v44 v45
  have v47 : IVec S256x128 32 := broadcast S256x128 8#32
  have v48 : IVec S256x128 32 := subi v46 v47
  have v49 : FVec Ideal S256x128 .bf16 := sitofp .bf16 v48
  have v51 : FVec Ideal S24x128 .bf16 := shapeCast S24x128 a shapeCasts_S24x128_S24x128
  have cst_16 : FVec Ideal S256x128 .f32 := constant S256x128 .f32 0x00000000#32
  have v52 : FVec Ideal S256x128 .f32 := matmul dot_S24x256_S24x128_S256x128_0_0_1_1_n_n none v15 v51 cst_16
  have v53 : FVec Ideal S1x256 .f32 := extractStridedSlice S1x256 ![k, 0] v28 hk
  have v54 : FVec Ideal S1x256 .f32 := shapeCast S1x256 v53 shapeCasts_S1x256_S1x256
  have v55 : FVec Ideal S128x256 .f32 := broadcastTo S128x256 v54 broadcasts_S1x256_S128x256
  have v56 : FVec Ideal S256x128 .f32 := transpose S256x128 [1, 0] v55 transposes_S128x256_p1_0_S256x128
  have v57 : FVec Ideal S256x128 .bf16 := truncf .bf16 v56 bitsLt_bf16_f32
  have v58 : FVec Ideal S256x128 .bf16 := mulf v49 v57
  have v59 : FVec Ideal S256x128 .f32 := extf .f32 v58 bitsLt_bf16_f32
  have cst_17 : Ideal .f32 := Scalar.ofBits .f32 0x3F000000#32
  have v60 : FVec Ideal S256x128 .f32 := broadcast S256x128 cst_17
  have v61 : FVec Ideal S256x128 .f32 := mulf v60 v52
  have v62 : FVec Ideal S256x128 .f32 := addf v59 v61
  have v63 : FVec Ideal S256x128 .bf16 := truncf .bf16 v62 bitsLt_bf16_f32
  shapeCast S256x128 v63 shapeCasts_S256x128_S256x128

/-- One group's block at a row and a column. -/
theorem vtg_at (k : ℕ) (hk : S22x256.Slices ![k, 0] S1x256) (v15 : FVec Ideal S24x256 .bf16) (v28 : FVec Ideal S22x256 .f32)
    (w : Vec Ideal S128x128 .i8) (a : Vec Ideal S24x128 .bf16) (hk' : k < 22) (o : Fin 256) (c : Fin 128) :
    vtg k hk v15 v28 w a (ix2 o c)
      = code o.val (w (ix2 (⟨o.val / 2, by have := o.2; omega⟩ : Fin 128) c)) * v28 (ix2 (⟨k, hk'⟩ : Fin 22) o)
        + half * ∑ r : Fin 24, v15 (ix2 r o) * a (ix2 r c) := by
  pointwise [vtg]
  rw [word_odd o.val o.2]
  unfold code nib half
  split <;> rfl

variable {I : In} {i : grid0.Coords} {x0 : Vec Ideal S2048x256 .bf16} {x1 : Vec Ideal S2048x2816 .fp8e4m3} {x2 : Vec Ideal S2048x1 .f32}
  {x3 : Vec Ideal S128x2816 .i8} {x4 : Vec Ideal S22x256 .bf16} {x5 : Vec Ideal S24x2816 .bf16}
  {x6 : Vec Ideal S24x256 .bf16} {x7 : Vec Ideal S1x256 .f32} {x8 : Vec Ideal S1x256 .f32}

/-- The block of the second factor is the array's, masked. -/
theorem bt_eq (B : Blk I (i 0).val x0 x1 x2 x3 x4 x5 x6 x7 x8) (r : Fin 24) (o : Fin 256) :
    k0_pay16 i x6 (ix2 r o) = msk (I.b r) (256 * (i 0).val + o.val) := by
  rw [bt_at]
  unfold msk
  by_cases h : 256 * (i 0).val + o.val < 5760
  · rw [if_pos h, dif_pos h, B.h6 r o h]
  · rw [if_neg h, dif_neg h]

/-- The block of scales is the array's, masked. -/
theorem ws_eq (B : Blk I (i 0).val x0 x1 x2 x3 x4 x5 x6 x7 x8) (k : Fin 22) (o : Fin 256) :
    k0_pay18 i x4 (ix2 k o) = msk (I.ws k) (256 * (i 0).val + o.val) := by
  rw [ws_at]
  unfold msk
  by_cases h : 256 * (i 0).val + o.val < 5760
  · rw [if_pos h, dif_pos h, B.h4 k o h]
  · rw [if_neg h, dif_neg h]

/-- One group's block is the adapted weight's, masked: the codes past the last column meet a scale of zero. -/
theorem vtg_eq (B : Blk I (i 0).val x0 x1 x2 x3 x4 x5 x6 x7 x8) (k : ℕ) (hk : S22x256.Slices ![k, 0] S1x256) (hk' : k < 22)
    (w : Vec Ideal S128x128 .i8) (a : Vec Ideal S24x128 .bf16)
    (hw : ∀ (p : Fin 128) (c : Fin 128), w (ix2 p c) = x3 (ix2 p (⟨128 * k + c.val, by have := c.2; omega⟩ : Fin 2816)))
    (ha : ∀ (r : Fin 24) (c : Fin 128), a (ix2 r c) = x5 (ix2 r (⟨128 * k + c.val, by have := c.2; omega⟩ : Fin 2816)))
    (o : Fin 256) (c : Fin 128) :
    vtg k hk (k0_pay16 i x6) (k0_pay18 i x4) w a (ix2 o c)
      = msk (fun o => V I o ⟨128 * k + c.val, by have := c.2; omega⟩) (256 * (i 0).val + o.val) := by
  rw [vtg_at k hk _ _ w a hk', ws_eq B]
  simp only [bt_eq B, hw, ha, B.h5]
  have ho := o.2
  have hc := c.2
  by_cases h : 256 * (i 0).val + o.val < 5760
  · simp only [msk_lt _ h]
    unfold V
    have e1 : (128 * k + c.val) / 128 = k := by omega
    have e2 : (256 * (i 0).val + o.val) / 2 = 128 * (i 0).val + o.val / 2 := by omega
    have e3 : (256 * (i 0).val + o.val) % 2 = o.val % 2 := by omega
    rw [B.h3 _ _ (by show 128 * (i 0).val + o.val / 2 < 2880; omega)]
    unfold code
    simp only [e1, e2, e3]
  · simp only [msk_ge _ h, mul_zero, zero_mul, Finset.sum_const_zero, add_zero]

end Cert.KernelIdeal.Value

end
-- ==== Proof.Value.Vt.lean ====
/-
  The transposed adapted weight that a grid point stores, group by group, read back: the array's block, masked.
-/
module

public import proofs.«01_k».proof.Proof.Gen.KernelIdeal.Frame
public import proofs.«01_k».proof.Proof.Value.Block
public import Idealize.ShloMosaic.Lib.Pipeline.ReadBack
public import Idealize.ShloMosaic.Lib.Pipeline.ValueKit.Geometry
public import Idealize.ShloMosaic.Lib.Pipeline.ValueKit.Tiles
public import Idealize.ShloMosaic.Lib.Ring

@[expose] public section

set_option maxRecDepth 16384
noncomputable section

namespace Cert.KernelIdeal.Value
open Cert.KernelIdeal Cert.KernelIdeal.Gen Cert.Value
open Idealize.ShloMosaic Idealize.ShloMosaic.WordCmp Idealize.ShloMosaic.Tactic

/-- The 22 stores of a grid point into the buffer of the transposed weight, the last first. -/
def vtL (i : grid0.Coords) (x3 : Vec Ideal S128x2816 .i8) (x4 : Vec Ideal S22x256 .bf16) (x5 : Vec Ideal S24x2816 .bf16)
    (x6 : Vec Ideal S24x256 .bf16) : List (View.Piece (Elt Ideal) S256x2816 .bf16) :=
  [⟨Rect.unit ![0, 2688] ![256, 128] inb_S256x2816_S256x128_0_2688, k0_pay73 (k0_pay71 (k0_pay16 i x6)
        (View.ld x5 (Rect.unit ![0, 2688] ![24, 128] inb_S24x2816_S24x128_0_2688))) (k0_pay72 (k0_pay18 i x4) (View.ld x3 (Rect.unit ![0, 2688] ![128, 128] inb_S128x2816_S128x128_0_2688)))⟩,
    ⟨Rect.unit ![0, 2560] ![256, 128] inb_S256x2816_S256x128_0_2560, k0_pay70 (k0_pay16 i x6) (k0_pay18 i x4) (k0_pay68
        (View.ld x3 (Rect.unit ![0, 2560] ![128, 128] inb_S128x2816_S128x128_0_2560))) (k0_pay69 (View.ld x5 (Rect.unit ![0, 2560] ![24, 128] inb_S24x2816_S24x128_0_2560))) (constant S256x128 FTy.f32 0#32)⟩,
    ⟨Rect.unit ![0, 2432] ![256, 128] inb_S256x2816_S256x128_0_2432, k0_pay67 (k0_pay16 i x6) (k0_pay18 i x4) (k0_pay65
        (View.ld x3 (Rect.unit ![0, 2432] ![128, 128] inb_S128x2816_S128x128_0_2432))) k0_pay66 (View.ld x5 (Rect.unit ![0, 2432] ![24, 128] inb_S24x2816_S24x128_0_2432))⟩,
    ⟨Rect.unit ![0, 2304] ![256, 128] inb_S256x2816_S256x128_0_2304, k0_pay64 (k0_pay16 i x6) (k0_pay18 i x4) (k0_pay63
        (View.ld x3 (Rect.unit ![0, 2304] ![128, 128] inb_S128x2816_S128x128_0_2304))) (15#32) (View.ld x5 (Rect.unit ![0, 2304] ![24, 128] inb_S24x2816_S24x128_0_2304))⟩,
    ⟨Rect.unit ![0, 2176] ![256, 128] inb_S256x2816_S256x128_0_2176, k0_pay62 (k0_pay16 i x6) (k0_pay18 i x4) (k0_pay60
        (View.ld x3 (Rect.unit ![0, 2176] ![128, 128] inb_S128x2816_S128x128_0_2176))) k0_pay61 (1#32) (View.ld x5 (Rect.unit ![0, 2176] ![24, 128] inb_S24x2816_S24x128_0_2176))⟩,
    ⟨Rect.unit ![0, 2048] ![256, 128] inb_S256x2816_S256x128_0_2048, k0_pay59 (k0_pay16 i x6) (k0_pay18 i x4) (k0_pay58
        (View.ld x3 (Rect.unit ![0, 2048] ![128, 128] inb_S128x2816_S128x128_0_2048))) (View.ld x5 (Rect.unit ![0, 2048] ![24, 128] inb_S24x2816_S24x128_0_2048))⟩,
    ⟨Rect.unit ![0, 1920] ![256, 128] inb_S256x2816_S256x128_0_1920, k0_pay57 (k0_pay16 i x6) (k0_pay18 i x4)
        (View.ld x3 (Rect.unit ![0, 1920] ![128, 128] inb_S128x2816_S128x128_0_1920)) (View.ld x5 (Rect.unit ![0, 1920] ![24, 128] inb_S24x2816_S24x128_0_1920))⟩,
    ⟨Rect.unit ![0, 1792] ![256, 128] inb_S256x2816_S256x128_0_1792, k0_pay56 (k0_pay16 i x6) (k0_pay18 i x4)
        (View.ld x3 (Rect.unit ![0, 1792] ![128, 128] inb_S128x2816_S128x128_0_1792)) (View.ld x5 (Rect.unit ![0, 1792] ![24, 128] inb_S24x2816_S24x128_0_1792))⟩,
    ⟨Rect.unit ![0, 1664] ![256, 128] inb_S256x2816_S256x128_0_1664, k0_pay55 (k0_pay53 (k0_pay18 i x4)
        (View.ld x3 (Rect.unit ![0, 1664] ![128, 128] inb_S128x2816_S128x128_0_1664))) (k0_pay54 (k0_pay16 i x6) (View.ld x5 (Rect.unit ![0, 1664] ![24, 128] inb_S24x2816_S24x128_0_1664)))⟩,
    ⟨Rect.unit ![0, 1536] ![256, 128] inb_S256x2816_S256x128_0_1536, k0_pay52 (k0_pay49
        (View.ld x3 (Rect.unit ![0, 1536] ![128, 128] inb_S128x2816_S128x128_0_1536))) (k0_pay50 (k0_pay16 i x6) (View.ld x5 (Rect.unit ![0, 1536] ![24, 128] inb_S24x2816_S24x128_0_1536))) (k0_pay51 (k0_pay18 i x4))⟩,
    ⟨Rect.unit ![0, 1408] ![256, 128] inb_S256x2816_S256x128_0_1408, k0_pay48 (k0_pay16 i x6) (k0_pay18 i x4) (k0_pay47
        (View.ld x3 (Rect.unit ![0, 1408] ![128, 128] inb_S128x2816_S128x128_0_1408))) (View.ld x5 (Rect.unit ![0, 1408] ![24, 128] inb_S24x2816_S24x128_0_1408))⟩,
    ⟨Rect.unit ![0, 1280] ![256, 128] inb_S256x2816_S256x128_0_1280, k0_pay46 (k0_pay16 i x6) (k0_pay18 i x4) (k0_pay44
        (View.ld x3 (Rect.unit ![0, 1280] ![128, 128] inb_S128x2816_S128x128_0_1280))) k0_pay45 (View.ld x5 (Rect.unit ![0, 1280] ![24, 128] inb_S24x2816_S24x128_0_1280))⟩,
    ⟨Rect.unit ![0, 1152] ![256, 128] inb_S256x2816_S256x128_0_1152, k0_pay43 (k0_pay16 i x6) (k0_pay18 i x4) (k0_pay40
        (View.ld x3 (Rect.unit ![0, 1152] ![128, 128] inb_S128x2816_S128x128_0_1152))) k0_pay41 k0_pay42 (View.ld x5 (Rect.unit ![0, 1152] ![24, 128] inb_S24x2816_S24x128_0_1152))⟩,
    ⟨Rect.unit ![0, 1024] ![256, 128] inb_S256x2816_S256x128_0_1024, k0_pay39 (k0_pay16 i x6) (k0_pay18 i x4) (k0_pay38
        (View.ld x3 (Rect.unit ![0, 1024] ![128, 128] inb_S128x2816_S128x128_0_1024))) (iota Kind.tc S256x128 32 [0] iota_S256x128_d0_w32) (1#32) (View.ld x5 (Rect.unit ![0, 1024] ![24, 128] inb_S24x2816_S24x128_0_1024))⟩,
    ⟨Rect.unit ![0, 896] ![256, 128] inb_S256x2816_S256x128_0_896, k0_pay37 (k0_pay16 i x6) (k0_pay18 i x4)
        (View.ld x3 (Rect.unit ![0, 896] ![128, 128] inb_S128x2816_S128x128_0_896)) (View.ld x5 (Rect.unit ![0, 896] ![24, 128] inb_S24x2816_S24x128_0_896))⟩,
    ⟨Rect.unit ![0, 768] ![256, 128] inb_S256x2816_S256x128_0_768, k0_pay36 (k0_pay16 i x6) (k0_pay18 i x4)
        (View.ld x3 (Rect.unit ![0, 768] ![128, 128] inb_S128x2816_S128x128_0_768)) (View.ld x5 (Rect.unit ![0, 768] ![24, 128] inb_S24x2816_S24x128_0_768))⟩,
    ⟨Rect.unit ![0, 640] ![256, 128] inb_S256x2816_S256x128_0_640, k0_pay35 (k0_pay34 (k0_pay16 i x6) (k0_pay18 i x4)
        (View.ld x3 (Rect.unit ![0, 640] ![128, 128] inb_S128x2816_S128x128_0_640)) (View.ld x5 (Rect.unit ![0, 640] ![24, 128] inb_S24x2816_S24x128_0_640)))⟩,
    ⟨Rect.unit ![0, 512] ![256, 128] inb_S256x2816_S256x128_0_512, k0_pay33 (k0_pay31 (k0_pay16 i x6)
        (View.ld x5 (Rect.unit ![0, 512] ![24, 128] inb_S24x2816_S24x128_0_512))) (k0_pay32 (k0_pay18 i x4) (View.ld x3 (Rect.unit ![0, 512] ![128, 128] inb_S128x2816_S128x128_0_512)))⟩,
    ⟨Rect.unit ![0, 384] ![256, 128] inb_S256x2816_S256x128_0_384, k0_pay30 (k0_pay18 i x4) (k0_pay28
        (View.ld x3 (Rect.unit ![0, 384] ![128, 128] inb_S128x2816_S128x128_0_384))) (k0_pay29 (k0_pay16 i x6) (View.ld x5 (Rect.unit ![0, 384] ![24, 128] inb_S24x2816_S24x128_0_384)))⟩,
    ⟨Rect.unit ![0, 256] ![256, 128] inb_S256x2816_S256x128_0_256, k0_pay27 (k0_pay16 i x6) (k0_pay18 i x4) (k0_pay26
        (View.ld x3 (Rect.unit ![0, 256] ![128, 128] inb_S128x2816_S128x128_0_256))) (View.ld x5 (Rect.unit ![0, 256] ![24, 128] inb_S24x2816_S24x128_0_256))⟩,
    ⟨Rect.unit ![0, 128] ![256, 128] inb_S256x2816_S256x128_0_128, k0_pay25 (k0_pay16 i x6) (k0_pay18 i x4) (k0_pay23
        (View.ld x3 (Rect.unit ![0, 128] ![128, 128] inb_S128x2816_S128x128_0_128))) k0_pay24 (View.ld x5 (Rect.unit ![0, 128] ![24, 128] inb_S24x2816_S24x128_0_128))⟩,
    ⟨Rect.unit ![0, 0] ![256, 128] inb_S256x2816_S256x128_0_0, k0_pay22 (k0_pay16 i x6) (k0_pay18 i x4) (k0_pay19
        (View.ld x3 (Rect.unit ![0, 0] ![128, 128] inb_S128x2816_S128x128_0_0))) k0_pay20 k0_pay21 (View.ld x5 (Rect.unit ![0, 0] ![24, 128] inb_S24x2816_S24x128_0_0))⟩]

/-- The transposed adapted weight of the grid point's columns, masked. -/
def VG (I : In) (t : ℕ) : Vec Ideal S256x2816 .bf16 :=
  fun y => msk (fun o => V I o (y 1)) (256 * t + (y 0).val)

/-- A place of a rectangle's unit-stride embedding. -/
theorem emb2 {d0 d1 s0 s1 : ℕ} (o0 o1 : ℕ)
    (inb : ∀ a, (![o0, o1] : Fin 2 → ℕ) a + (![s0, s1] : Fin 2 → ℕ) a ≤ (⟨2, ![d0, d1]⟩ : Shape).size a) (p : Fin s0) (q : Fin s1)
    (h0 : o0 + p.val < d0) (h1 : o1 + q.val < d1) :
    (Rect.unit (s := ⟨2, ![d0, d1]⟩) ![o0, o1] ![s0, s1] inb).emb (ix2 p q) = ix2 (⟨o0 + p.val, h0⟩ : Fin d0) (⟨o1 + q.val, h1⟩ : Fin d1) :=
  funext fun a => Fin.ext ((ValueKit.rect_emb_unit_val _ _ inb _ a).trans (match a with | 0 => rfl | 1 => rfl))

/-- A load of a rectangle at a place of it. -/
theorem ld2 {d0 d1 s0 s1 : ℕ} {e : EltTy} (X : (⟨2, ![d0, d1]⟩ : Shape).Idx → Elt Ideal e) (o0 o1 : ℕ)
    (inb : ∀ a, (![o0, o1] : Fin 2 → ℕ) a + (![s0, s1] : Fin 2 → ℕ) a ≤ (⟨2, ![d0, d1]⟩ : Shape).size a) (p : Fin s0) (q : Fin s1)
    (h0 : o0 + p.val < d0) (h1 : o1 + q.val < d1) :
    View.ld X (Rect.unit (s := ⟨2, ![d0, d1]⟩) ![o0, o1] ![s0, s1] inb) (ix2 p q) = X (ix2 (⟨o0 + p.val, h0⟩ : Fin d0) (⟨o1 + q.val, h1⟩ : Fin d1)) :=
  congrArg X (emb2 o0 o1 inb p q h0 h1)

variable {I : In} {i : grid0.Coords} {x0 : Vec Ideal S2048x256 .bf16} {x1 : Vec Ideal S2048x2816 .fp8e4m3} {x2 : Vec Ideal S2048x1 .f32}
  {x3 : Vec Ideal S128x2816 .i8} {x4 : Vec Ideal S22x256 .bf16} {x5 : Vec Ideal S24x2816 .bf16}
  {x6 : Vec Ideal S24x256 .bf16} {x7 : Vec Ideal S1x256 .f32} {x8 : Vec Ideal S1x256 .f32}

/-- One group's store is its part of the masked weight. -/
theorem vt_piece (B : Blk I (i 0).val x0 x1 x2 x3 x4 x5 x6 x7 x8) (k : ℕ) (n : ℕ) (hn : n = 128 * k)
    (hk : S22x256.Slices ![k, 0] S1x256) (hk' : k < 22)
    (in3 : ∀ a, (![0, n] : Fin 2 → ℕ) a + S128x128.size a ≤ S128x2816.size a)
    (in5 : ∀ a, (![0, n] : Fin 2 → ℕ) a + S24x128.size a ≤ S24x2816.size a)
    (inv : ∀ a, (![0, n] : Fin 2 → ℕ) a + S256x128.size a ≤ S256x2816.size a)
    (P : Vec Ideal S256x128 .bf16)
    (hP : P = vtg k hk (k0_pay16 i x6) (k0_pay18 i x4) (View.ld x3 (Rect.unit (s := S128x2816) ![0, n] S128x128.size in3))
      (View.ld x5 (Rect.unit (s := S24x2816) ![0, n] S24x128.size in5)))
    (x : S256x128.Idx) :
    P x = VG I (i 0).val ((Rect.unit (s := S256x2816) ![0, n] S256x128.size inv).emb x) := by
  subst hP
  subst hn
  obtain ⟨p, q, rfl⟩ : ∃ (p : Fin 256) (q : Fin 128), x = ix2 p q := ⟨x 0, x 1, eq_ix2 x⟩
  have hq : 128 * k + q.val < 2816 := by have := q.2; omega
  refine (vtg_eq B k hk hk' _ _ (fun a b => ?_) (fun a b => ?_) p q).trans ?_
  · exact (ld2 x3 0 (128 * k) in3 a b (by have := a.2; omega) (by have := b.2; omega)).trans
      (congrArg x3 (congrArg (fun r => ix2 r _) (Fin.ext (Nat.zero_add _))))
  · exact (ld2 x5 0 (128 * k) in5 a b (by have := a.2; omega) (by have := b.2; omega)).trans
      (congrArg x5 (congrArg (fun r => ix2 r _) (Fin.ext (Nat.zero_add _))))
  · rw [emb2 0 (128 * k) inv p q (by have := p.2; omega) hq]
    show _ = msk (fun o => V I o ⟨128 * k + q.val, hq⟩) (256 * (i 0).val + (0 + p.val))
    rw [Nat.zero_add]

/-- The stores read back. -/
theorem vt_canon (B : Blk I (i 0).val x0 x1 x2 x3 x4 x5 x6 x7 x8) : View.canon (vtL i x3 x4 x5 x6) = VG I (i 0).val := by
  funext y
  refine View.canon_append_of_piecesOf (VG I (i 0).val) [] (vtL i x3 x4 x5 x6) ?_ y ?_
  · exact ⟨vt_piece B 21 2688 rfl (by decide) (by decide)
        inb_S128x2816_S128x128_0_2688 inb_S24x2816_S24x128_0_2688 inb_S256x2816_S256x128_0_2688 _ rfl,
      vt_piece B 20 2560 rfl (by decide) (by decide)
        inb_S128x2816_S128x128_0_2560 inb_S24x2816_S24x128_0_2560 inb_S256x2816_S256x128_0_2560 _ rfl,
      vt_piece B 19 2432 rfl (by decide) (by decide)
        inb_S128x2816_S128x128_0_2432 inb_S24x2816_S24x128_0_2432 inb_S256x2816_S256x128_0_2432 _ rfl,
      vt_piece B 18 2304 rfl (by decide) (by decide)
        inb_S128x2816_S128x128_0_2304 inb_S24x2816_S24x128_0_2304 inb_S256x2816_S256x128_0_2304 _ rfl,
      vt_piece B 17 2176 rfl (by decide) (by decide)
        inb_S128x2816_S128x128_0_2176 inb_S24x2816_S24x128_0_2176 inb_S256x2816_S256x128_0_2176 _ rfl,
      vt_piece B 16 2048 rfl (by decide) (by decide)
        inb_S128x2816_S128x128_0_2048 inb_S24x2816_S24x128_0_2048 inb_S256x2816_S256x128_0_2048 _ rfl,
      vt_piece B 15 1920 rfl (by decide) (by decide)
        inb_S128x2816_S128x128_0_1920 inb_S24x2816_S24x128_0_1920 inb_S256x2816_S256x128_0_1920 _ rfl,
      vt_piece B 14 1792 rfl (by decide) (by decide)
        inb_S128x2816_S128x128_0_1792 inb_S24x2816_S24x128_0_1792 inb_S256x2816_S256x128_0_1792 _ rfl,
      vt_piece B 13 1664 rfl (by decide) (by decide)
        inb_S128x2816_S128x128_0_1664 inb_S24x2816_S24x128_0_1664 inb_S256x2816_S256x128_0_1664 _ rfl,
      vt_piece B 12 1536 rfl (by decide) (by decide)
        inb_S128x2816_S128x128_0_1536 inb_S24x2816_S24x128_0_1536 inb_S256x2816_S256x128_0_1536 _ rfl,
      vt_piece B 11 1408 rfl (by decide) (by decide)
        inb_S128x2816_S128x128_0_1408 inb_S24x2816_S24x128_0_1408 inb_S256x2816_S256x128_0_1408 _ rfl,
      vt_piece B 10 1280 rfl (by decide) (by decide)
        inb_S128x2816_S128x128_0_1280 inb_S24x2816_S24x128_0_1280 inb_S256x2816_S256x128_0_1280 _ rfl,
      vt_piece B 9 1152 rfl (by decide) (by decide)
        inb_S128x2816_S128x128_0_1152 inb_S24x2816_S24x128_0_1152 inb_S256x2816_S256x128_0_1152 _ rfl,
      vt_piece B 8 1024 rfl (by decide) (by decide)
        inb_S128x2816_S128x128_0_1024 inb_S24x2816_S24x128_0_1024 inb_S256x2816_S256x128_0_1024 _ rfl,
      vt_piece B 7 896 rfl (by decide) (by decide)
        inb_S128x2816_S128x128_0_896 inb_S24x2816_S24x128_0_896 inb_S256x2816_S256x128_0_896 _ rfl,
      vt_piece B 6 768 rfl (by decide) (by decide)
        inb_S128x2816_S128x128_0_768 inb_S24x2816_S24x128_0_768 inb_S256x2816_S256x128_0_768 _ rfl,
      vt_piece B 5 640 rfl (by decide) (by decide)
        inb_S128x2816_S128x128_0_640 inb_S24x2816_S24x128_0_640 inb_S256x2816_S256x128_0_640 _ rfl,
      vt_piece B 4 512 rfl (by decide) (by decide)
        inb_S128x2816_S128x128_0_512 inb_S24x2816_S24x128_0_512 inb_S256x2816_S256x128_0_512 _ rfl,
      vt_piece B 3 384 rfl (by decide) (by decide)
        inb_S128x2816_S128x128_0_384 inb_S24x2816_S24x128_0_384 inb_S256x2816_S256x128_0_384 _ rfl,
      vt_piece B 2 256 rfl (by decide) (by decide)
        inb_S128x2816_S128x128_0_256 inb_S24x2816_S24x128_0_256 inb_S256x2816_S256x128_0_256 _ rfl,
      vt_piece B 1 128 rfl (by decide) (by decide)
        inb_S128x2816_S128x128_0_128 inb_S24x2816_S24x128_0_128 inb_S256x2816_S256x128_0_128 _ rfl,
      vt_piece B 0 0 rfl (by decide) (by decide)
        inb_S128x2816_S128x128_0_0 inb_S24x2816_S24x128_0_0 inb_S256x2816_S256x128_0_0 _ rfl, trivial⟩
  · exact View.cover_of_tiledL (vtL i x3 x4 x5 x6) S256x128.size (by sl_kernel_rfl) y

end Cert.KernelIdeal.Value

end
-- ==== Proof.Value.Lists.lean ====
/-
  The other buffers that a grid point stores, read back: the scaled gradient's block, the two accumulators one block of
  columns on, the activations through the first factor, and the blocks of the results.
-/
module

public import proofs.«01_k».proof.Proof.Value.Vt

@[expose] public section

set_option maxRecDepth 16384
noncomputable section

namespace Cert.KernelIdeal.Value
open Cert.KernelIdeal Cert.KernelIdeal.Gen Cert.Value
open Idealize.ShloMosaic Idealize.ShloMosaic.WordCmp Idealize.ShloMosaic.Tactic

/-- The four stores of the scaled gradient's block, the last first. -/
def dypL (i : grid0.Coords) (x0 : Vec Ideal S2048x256 .bf16) (x7 x8 : Vec Ideal S1x256 .f32) :
    List (View.Piece (Elt Ideal) S2048x256 .bf16) :=
  [⟨Rect.unit ![1536, 0] ![512, 256] inb_S2048x256_S512x256_1536_0, k0_pay96 (k0_pay15 i) (k0_pay17 i x7 x8)
        (View.ld x0 (Rect.unit ![1536, 0] ![512, 256] inb_S2048x256_S512x256_1536_0))⟩,
    ⟨Rect.unit ![1024, 0] ![512, 256] inb_S2048x256_S512x256_1024_0, k0_pay89 (k0_pay15 i) (k0_pay17 i x7 x8)
        (View.ld x0 (Rect.unit ![1024, 0] ![512, 256] inb_S2048x256_S512x256_1024_0))⟩,
    ⟨Rect.unit ![512, 0] ![512, 256] inb_S2048x256_S512x256_512_0, k0_pay82 (k0_pay15 i) (k0_pay17 i x7 x8)
        (View.ld x0 (Rect.unit ![512, 0] ![512, 256] inb_S2048x256_S512x256_512_0))⟩,
    ⟨Rect.unit ![0, 0] ![512, 256] inb_S2048x256_S512x256_0_0, k0_pay76 (k0_pay15 i) (k0_pay17 i x7 x8)
        (View.ld x0 (Rect.unit ![0, 0] ![512, 256] inb_S2048x256_S512x256_0_0))⟩]

/-- The four stores into the accumulator of the activations' gradient, over its blocks `a0` to `a3` before. -/
def accL (i : grid0.Coords) (x0 : Vec Ideal S2048x256 .bf16) (x7 x8 : Vec Ideal S1x256 .f32) (vt : Vec Ideal S256x2816 .bf16)
    (a0 a1 a2 a3 : Vec Ideal S512x2816 .f32) : List (View.Piece (Elt Ideal) S2048x2816 .f32) :=
  [⟨Rect.unit ![1536, 0] ![512, 2816] inb_S2048x2816_S512x2816_1536_0, k0_pay98 (k0_pay95 (k0_pay15 i) (k0_pay17 i x7 x8)
        (View.ld x0 (Rect.unit ![1536, 0] ![512, 256] inb_S2048x256_S512x256_1536_0))) a3 vt⟩,
    ⟨Rect.unit ![1024, 0] ![512, 2816] inb_S2048x2816_S512x2816_1024_0, k0_pay92 (k0_pay88 (k0_pay15 i) (k0_pay17 i x7 x8)
        (View.ld x0 (Rect.unit ![1024, 0] ![512, 256] inb_S2048x256_S512x256_1024_0))) a2 vt⟩,
    ⟨Rect.unit ![512, 0] ![512, 2816] inb_S2048x2816_S512x2816_512_0, k0_pay85 (k0_pay81 (k0_pay15 i) (k0_pay17 i x7 x8)
        (View.ld x0 (Rect.unit ![512, 0] ![512, 256] inb_S2048x256_S512x256_512_0))) a1 vt⟩,
    ⟨Rect.unit ![0, 0] ![512, 2816] inb_S2048x2816_S512x2816_0_0, k0_pay78 (k0_pay75 (k0_pay15 i) (k0_pay17 i x7 x8)
        (View.ld x0 (Rect.unit ![0, 0] ![512, 256] inb_S2048x256_S512x256_0_0))) a0 vt⟩]

/-- The four stores into the accumulator of the gradient through the second factor, over its blocks `a0` to `a3` before. -/
def hL (i : grid0.Coords) (x0 : Vec Ideal S2048x256 .bf16) (x6 : Vec Ideal S24x256 .bf16) (x7 x8 : Vec Ideal S1x256 .f32)
    (a0 a1 a2 a3 : Vec Ideal S512x24 .f32) : List (View.Piece (Elt Ideal) S2048x24 .f32) :=
  [⟨Rect.unit ![1536, 0] ![512, 24] inb_S2048x24_S512x24_1536_0, k0_pay99 (k0_pay16 i x6) (k0_pay95 (k0_pay15 i) (k0_pay17 i x7 x8)
        (View.ld x0 (Rect.unit ![1536, 0] ![512, 256] inb_S2048x256_S512x256_1536_0))) a3⟩,
    ⟨Rect.unit ![1024, 0] ![512, 24] inb_S2048x24_S512x24_1024_0, k0_pay93 (k0_pay16 i x6) (k0_pay88 (k0_pay15 i) (k0_pay17 i x7 x8)
        (View.ld x0 (Rect.unit ![1024, 0] ![512, 256] inb_S2048x256_S512x256_1024_0))) a2⟩,
    ⟨Rect.unit ![512, 0] ![512, 24] inb_S2048x24_S512x24_512_0, k0_pay86 (k0_pay16 i x6) (k0_pay81 (k0_pay15 i) (k0_pay17 i x7 x8)
        (View.ld x0 (Rect.unit ![512, 0] ![512, 256] inb_S2048x256_S512x256_512_0))) a1⟩,
    ⟨Rect.unit ![0, 0] ![512, 24] inb_S2048x24_S512x24_0_0, k0_pay79 (k0_pay16 i x6) (k0_pay75 (k0_pay15 i) (k0_pay17 i x7 x8)
        (View.ld x0 (Rect.unit ![0, 0] ![512, 256] inb_S2048x256_S512x256_0_0))) a0⟩]

/-- The four stores of the activations through the first factor. -/
def xaL (x1 : Vec Ideal S2048x2816 .fp8e4m3) (x2 : Vec Ideal S2048x1 .f32) (x5 : Vec Ideal S24x2816 .bf16) :
    List (View.Piece (Elt Ideal) S2048x24 .bf16) :=
  [⟨Rect.unit ![1536, 0] ![512, 24] inb_S2048x24_S512x24_1536_0, k0_pay14
        (View.ld x1 (Rect.unit ![1536, 0] ![512, 2816] inb_S2048x2816_S512x2816_1536_0)) x5 (View.ld x2 (Rect.unit ![1536, 0] ![512, 1] inb_S2048x1_S512x1_1536_0))⟩,
    ⟨Rect.unit ![1024, 0] ![512, 24] inb_S2048x24_S512x24_1024_0, k0_pay13
        (View.ld x1 (Rect.unit ![1024, 0] ![512, 2816] inb_S2048x2816_S512x2816_1024_0)) x5 (View.ld x2 (Rect.unit ![1024, 0] ![512, 1] inb_S2048x1_S512x1_1024_0))⟩,
    ⟨Rect.unit ![512, 0] ![512, 24] inb_S2048x24_S512x24_512_0, k0_pay12 (k0_pay7
        (View.ld x1 (Rect.unit ![512, 0] ![512, 2816] inb_S2048x2816_S512x2816_512_0)) x5 (View.ld x2 (Rect.unit ![512, 0] ![512, 1] inb_S2048x1_S512x1_512_0)))⟩,
    ⟨Rect.unit ![0, 0] ![512, 24] inb_S2048x24_S512x24_0_0, k0_pay6
        (View.ld x1 (Rect.unit ![0, 0] ![512, 2816] inb_S2048x2816_S512x2816_0_0)) x5 (View.ld x2 (Rect.unit ![0, 0] ![512, 1] inb_S2048x1_S512x1_0_0))⟩]

/-- The stores of the activations' gradient, from the accumulator's blocks. -/
def dxL (a0 a1 a2 a3 : Vec Ideal S512x2816 .f32) : List (View.Piece (Elt Ideal) S2048x2816 .bf16) :=
  [⟨Rect.unit ![1536, 0] ![512, 2816] inb_S2048x2816_S512x2816_1536_0, k0_pay2 a3⟩,
    ⟨Rect.unit ![1024, 0] ![512, 2816] inb_S2048x2816_S512x2816_1024_0, k0_pay11 a2⟩,
    ⟨Rect.unit ![512, 0] ![512, 2816] inb_S2048x2816_S512x2816_512_0, k0_pay9 a1⟩,
    ⟨Rect.unit ![0, 0] ![512, 2816] inb_S2048x2816_S512x2816_0_0, k0_pay8 a0⟩]

/-- The stored block of the magnitudes' gradient. -/
def dmV (i : grid0.Coords) (x0 : Vec Ideal S2048x256 .bf16) (x1 : Vec Ideal S2048x2816 .fp8e4m3) (x2 : Vec Ideal S2048x1 .f32)
    (x8 : Vec Ideal S1x256 .f32) (vt : Vec Ideal S256x2816 .bf16) : FVec Ideal S1x256 .f32 :=
  k0_pay100 (k0_pay91 (k0_pay84 (k0_pay77 (k0_pay15 i)
        (View.ld x0 (Rect.unit ![0, 0] ![512, 256] inb_S2048x256_S512x256_0_0))
        (View.ld x1 (Rect.unit ![0, 0] ![512, 2816] inb_S2048x2816_S512x2816_0_0)) vt (View.ld x2 (Rect.unit ![0, 0] ![512, 1] inb_S2048x1_S512x1_0_0))) (k0_pay83 (k0_pay15 i)
        (View.ld x0 (Rect.unit ![512, 0] ![512, 256] inb_S2048x256_S512x256_512_0))
        (View.ld x1 (Rect.unit ![512, 0] ![512, 2816] inb_S2048x2816_S512x2816_512_0)) vt (View.ld x2 (Rect.unit ![512, 0] ![512, 1] inb_S2048x1_S512x1_512_0)))) (k0_pay87 (k0_pay15 i)
        (View.ld x0 (Rect.unit ![1024, 0] ![512, 256] inb_S2048x256_S512x256_1024_0))) (k0_pay90
        (View.ld x1 (Rect.unit ![1024, 0] ![512, 2816] inb_S2048x2816_S512x2816_1024_0)) vt) (View.ld x2 (Rect.unit ![1024, 0] ![512, 1] inb_S2048x1_S512x1_1024_0))) (k0_pay94 (k0_pay15 i)
        (View.ld x0 (Rect.unit ![1536, 0] ![512, 256] inb_S2048x256_S512x256_1536_0))) (k0_pay97
        (View.ld x1 (Rect.unit ![1536, 0] ![512, 2816] inb_S2048x2816_S512x2816_1536_0))) vt (View.ld x2 (Rect.unit ![1536, 0] ![512, 1] inb_S2048x1_S512x1_1536_0)) x8

/-- The stored gradient of the first factor, from the blocks of the gradient through the second. -/
def daV (x1 : Vec Ideal S2048x2816 .fp8e4m3) (x2 : Vec Ideal S2048x1 .f32) (a0 a1 a2 a3 : Vec Ideal S512x24 .f32) :
    FVec Ideal S24x2816 .bf16 :=
  k0_pay3 (k0_pay10
        (View.ld x1 (Rect.unit ![0, 0] ![512, 2816] inb_S2048x2816_S512x2816_0_0)) (View.ld x2 (Rect.unit ![0, 0] ![512, 1] inb_S2048x1_S512x1_0_0)) a0
        (View.ld x1 (Rect.unit ![512, 0] ![512, 2816] inb_S2048x2816_S512x2816_512_0)) (View.ld x2 (Rect.unit ![512, 0] ![512, 1] inb_S2048x1_S512x1_512_0)) a1)
        (View.ld x1 (Rect.unit ![1024, 0] ![512, 2816] inb_S2048x2816_S512x2816_1024_0)) (View.ld x2 (Rect.unit ![1024, 0] ![512, 1] inb_S2048x1_S512x1_1024_0)) a2
        (View.ld x1 (Rect.unit ![1536, 0] ![512, 2816] inb_S2048x2816_S512x2816_1536_0)) (View.ld x2 (Rect.unit ![1536, 0] ![512, 1] inb_S2048x1_S512x1_1536_0)) a3

/-- The stored block of the second factor's gradient. -/
def dbV (xa : Vec Ideal S2048x24 .bf16) (dyp : Vec Ideal S2048x256 .bf16) : FVec Ideal S24x256 .bf16 :=
  k0_pay1 (k0_pay101 xa dyp) (FloatOps.ofBits FTy.f32 1056964608#32)

/-- The scaled gradient of the grid point's columns, masked. -/
def DG (I : In) (t : ℕ) : Vec Ideal S2048x256 .bf16 := fun y => msk (D I (y 0)) (256 * t + (y 1).val)

/-- The accumulator of the activations' gradient with one block of columns added. -/
def AG (I : In) (t : ℕ) (Z : Vec Ideal S2048x2816 .f32) : Vec Ideal S2048x2816 .f32 :=
  fun y => (Z y + ∑ o : Fin 256, msk (fun o => D I (y 0) o * V I o (y 1)) (256 * t + o.val) : EReal)

/-- The accumulator of the gradient through the second factor with one block of columns added. -/
def HG (I : In) (t : ℕ) (Z : Vec Ideal S2048x24 .f32) : Vec Ideal S2048x24 .f32 :=
  fun y => (Z y + ∑ o : Fin 256, msk (fun o => D I (y 0) o * I.b (y 1) o) (256 * t + o.val) : EReal)

/-- The activations through the first factor. -/
def XG (I : In) : Vec Ideal S2048x24 .bf16 := fun y => XA I (y 0) (y 1)

variable {I : In} {i : grid0.Coords} {x0 : Vec Ideal S2048x256 .bf16} {x1 : Vec Ideal S2048x2816 .fp8e4m3} {x2 : Vec Ideal S2048x1 .f32}
  {x3 : Vec Ideal S128x2816 .i8} {x4 : Vec Ideal S22x256 .bf16} {x5 : Vec Ideal S24x2816 .bf16}
  {x6 : Vec Ideal S24x256 .bf16} {x7 : Vec Ideal S1x256 .f32} {x8 : Vec Ideal S1x256 .f32}

/-- The scaled gradient's rows from `n`. -/
theorem dp_eq (B : Blk I (i 0).val x0 x1 x2 x3 x4 x5 x6 x7 x8) (n : ℕ) (hn : n + 512 ≤ 2048)
    (inb : ∀ a, (![n, 0] : Fin 2 → ℕ) a + (![512, 256] : Fin 2 → ℕ) a ≤ S2048x256.size a) (r : Fin 512) (o : Fin 256) :
    k0_pay75 (k0_pay15 i) (k0_pay17 i x7 x8) (View.ld x0 (Rect.unit (s := S2048x256) ![n, 0] ![512, 256] inb)) (ix2 r o)
      = msk (D I ⟨n + r.val, by have := r.2; omega⟩) (256 * (i 0).val + o.val) := by
  have hr := r.2
  have ho := o.2
  have e : k0_pay75 (k0_pay15 i) (k0_pay17 i x7 x8) (View.ld x0 (Rect.unit (s := S2048x256) ![n, 0] ![512, 256] inb)) (ix2 r o)
      = Scalar.select (k0_pay15 i (ix2 (0 : Fin 1) o))
        (View.ld x0 (Rect.unit (s := S2048x256) ![n, 0] ![512, 256] inb) (ix2 r o) * k0_pay17 i x7 x8 (ix2 (0 : Fin 1) o) : EReal) 0 := by
    pointwise [k0_pay75, k0_pay74]
  rw [e, mask_at]
  by_cases h : 256 * (i 0).val + o.val < 5760
  · have e2 := ld2 x0 n 0 inb r o (by omega) (by omega)
    rw [if_pos h, msk_lt _ h, g_at, if_pos h, B.h7 o h, B.h8 o h]
    unfold D
    refine congrArg (fun v : EReal => v * _) (e2.trans ((congrArg x0 ?_).trans (B.h0 ⟨n + r.val, by omega⟩ o h)))
    exact congrArg (ix2 _) (Fin.ext (Nat.zero_add _))
  · rw [if_neg h, msk_ge _ h]

/-- The stores of the scaled gradient read back. -/
theorem dyp_canon (B : Blk I (i 0).val x0 x1 x2 x3 x4 x5 x6 x7 x8) : View.canon (dypL i x0 x7 x8) = DG I (i 0).val := by
  have key : ∀ (n : ℕ) (hn : n + 512 ≤ 2048)
      (inb : ∀ a, (![n, 0] : Fin 2 → ℕ) a + (![512, 256] : Fin 2 → ℕ) a ≤ S2048x256.size a) (P : FVec Ideal S512x256 .bf16)
      (_ : P = k0_pay75 (k0_pay15 i) (k0_pay17 i x7 x8) (View.ld x0 (Rect.unit (s := S2048x256) ![n, 0] ![512, 256] inb)))
      (x : S512x256.Idx), P x = DG I (i 0).val ((Rect.unit (s := S2048x256) ![n, 0] ![512, 256] inb).emb x) := by
    intro n hn inb P hP x
    obtain ⟨p, q, rfl⟩ : ∃ (p : Fin 512) (q : Fin 256), x = ix2 p q := ⟨x 0, x 1, eq_ix2 x⟩
    rw [hP, dp_eq B n hn inb p q, emb2 n 0 inb p q (by have := p.2; omega) (by have := q.2; omega)]
    show _ = msk (D I ⟨n + p.val, _⟩) (256 * (i 0).val + (0 + q.val))
    rw [Nat.zero_add]
  funext y
  refine View.canon_append_of_piecesOf (DG I (i 0).val) [] (dypL i x0 x7 x8) ?_ y ?_
  · exact ⟨key 1536 (by decide) inb_S2048x256_S512x256_1536_0 _ (by simp only [k0_pay96, shapeCast_self]; rfl),
      key 1024 (by decide) inb_S2048x256_S512x256_1024_0 _ (by simp only [k0_pay89, shapeCast_self]; rfl),
      key 512 (by decide) inb_S2048x256_S512x256_512_0 _ (by simp only [k0_pay82, shapeCast_self]; rfl),
      key 0 (by decide) inb_S2048x256_S512x256_0_0 _ (by simp only [k0_pay76, shapeCast_self]), trivial⟩
  · exact View.cover_of_tiledL (dypL i x0 x7 x8) ![512, 256] (by sl_kernel_rfl) y

/-- The stores into the accumulator of the activations' gradient, over any earlier ones, read back. -/
theorem acc_canon (B : Blk I (i 0).val x0 x1 x2 x3 x4 x5 x6 x7 x8) (Z : Vec Ideal S2048x2816 .f32) (a0 a1 a2 a3 : Vec Ideal S512x2816 .f32)
    (h0 : a0 = View.ld Z (Rect.unit (s := S2048x2816) ![0, 0] ![512, 2816] inb_S2048x2816_S512x2816_0_0))
    (h1 : a1 = View.ld Z (Rect.unit (s := S2048x2816) ![512, 0] ![512, 2816] inb_S2048x2816_S512x2816_512_0))
    (h2 : a2 = View.ld Z (Rect.unit (s := S2048x2816) ![1024, 0] ![512, 2816] inb_S2048x2816_S512x2816_1024_0))
    (h3 : a3 = View.ld Z (Rect.unit (s := S2048x2816) ![1536, 0] ![512, 2816] inb_S2048x2816_S512x2816_1536_0))
    (L' : List (View.Piece (Elt Ideal) S2048x2816 .f32)) :
    View.canon (accL i x0 x7 x8 (VG I (i 0).val) a0 a1 a2 a3 ++ L') = AG I (i 0).val Z := by
  have key : ∀ (n : ℕ) (hn : n + 512 ≤ 2048)
      (inb : ∀ a, (![n, 0] : Fin 2 → ℕ) a + (![512, 256] : Fin 2 → ℕ) a ≤ S2048x256.size a)
      (inb' : ∀ a, (![n, 0] : Fin 2 → ℕ) a + (![512, 2816] : Fin 2 → ℕ) a ≤ S2048x2816.size a) (P A : FVec Ideal S512x2816 .f32)
      (_ : P = k0_pay78 (k0_pay75 (k0_pay15 i) (k0_pay17 i x7 x8) (View.ld x0 (Rect.unit (s := S2048x256) ![n, 0] ![512, 256] inb))) A (VG I (i 0).val))
      (_ : A = View.ld Z (Rect.unit (s := S2048x2816) ![n, 0] ![512, 2816] inb'))
      (x : S512x2816.Idx), P x = AG I (i 0).val Z ((Rect.unit (s := S2048x2816) ![n, 0] ![512, 2816] inb').emb x) := by
    intro n hn inb inb' P A hP hA x
    obtain ⟨p, q, rfl⟩ : ∃ (p : Fin 512) (q : Fin 2816), x = ix2 p q := ⟨x 0, x 1, eq_ix2 x⟩
    have e : ∀ (v1 : FVec Ideal S512x256 .bf16) (v2 : Vec Ideal S512x2816 .f32) (v3 : Vec Ideal S256x2816 .bf16),
        k0_pay78 v1 v2 v3 (ix2 p q) = (v2 (ix2 p q) + ∑ o : Fin 256, v1 (ix2 p o) * v3 (ix2 o q) : EReal) := by
      intro v1 v2 v3
      pointwise [k0_pay78]
    have hp := p.2
    have hq := q.2
    rw [hP, e, hA]
    unfold AG
    refine congrArg₂ (fun u v : EReal => u + v) rfl (Finset.sum_congr rfl fun o _ => ?_)
    rw [dp_eq B n hn inb p o]
    show msk _ _ * msk (fun o => V I o q) (256 * (i 0).val + o.val) = _
    rw [msk_mul, emb2 n 0 inb' p q (by omega) (by omega)]
    show _ = msk (fun o => D I ⟨n + p.val, _⟩ o * V I o ⟨0 + q.val, _⟩) _
    simp only [Nat.zero_add]
  funext y
  refine View.canon_append_of_piecesOf (AG I (i 0).val Z) L' (accL i x0 x7 x8 (VG I (i 0).val) a0 a1 a2 a3) ?_ y ?_
  · exact ⟨key 1536 (by decide) inb_S2048x256_S512x256_1536_0 inb_S2048x2816_S512x2816_1536_0 _ _ rfl h3,
      key 1024 (by decide) inb_S2048x256_S512x256_1024_0 inb_S2048x2816_S512x2816_1024_0 _ _ rfl h2,
      key 512 (by decide) inb_S2048x256_S512x256_512_0 inb_S2048x2816_S512x2816_512_0 _ _ rfl h1,
      key 0 (by decide) inb_S2048x256_S512x256_0_0 inb_S2048x2816_S512x2816_0_0 _ _ rfl h0, trivial⟩
  · exact View.cover_of_tiledL (accL i x0 x7 x8 (VG I (i 0).val) a0 a1 a2 a3) ![512, 2816] (by sl_kernel_rfl) y

/-- The stores into the accumulator of the gradient through the second factor, over any earlier ones, read back. -/
theorem h_canon (B : Blk I (i 0).val x0 x1 x2 x3 x4 x5 x6 x7 x8) (Z : Vec Ideal S2048x24 .f32) (a0 a1 a2 a3 : Vec Ideal S512x24 .f32)
    (h0 : a0 = View.ld Z (Rect.unit (s := S2048x24) ![0, 0] ![512, 24] inb_S2048x24_S512x24_0_0))
    (h1 : a1 = View.ld Z (Rect.unit (s := S2048x24) ![512, 0] ![512, 24] inb_S2048x24_S512x24_512_0))
    (h2 : a2 = View.ld Z (Rect.unit (s := S2048x24) ![1024, 0] ![512, 24] inb_S2048x24_S512x24_1024_0))
    (h3 : a3 = View.ld Z (Rect.unit (s := S2048x24) ![1536, 0] ![512, 24] inb_S2048x24_S512x24_1536_0))
    (L' : List (View.Piece (Elt Ideal) S2048x24 .f32)) :
    View.canon (hL i x0 x6 x7 x8 a0 a1 a2 a3 ++ L') = HG I (i 0).val Z := by
  have key : ∀ (n : ℕ) (hn : n + 512 ≤ 2048)
      (inb : ∀ a, (![n, 0] : Fin 2 → ℕ) a + (![512, 256] : Fin 2 → ℕ) a ≤ S2048x256.size a)
      (inb' : ∀ a, (![n, 0] : Fin 2 → ℕ) a + (![512, 24] : Fin 2 → ℕ) a ≤ S2048x24.size a) (P A : FVec Ideal S512x24 .f32)
      (_ : P = k0_pay79 (k0_pay16 i x6) (k0_pay75 (k0_pay15 i) (k0_pay17 i x7 x8) (View.ld x0 (Rect.unit (s := S2048x256) ![n, 0] ![512, 256] inb))) A)
      (_ : A = View.ld Z (Rect.unit (s := S2048x24) ![n, 0] ![512, 24] inb'))
      (x : S512x24.Idx), P x = HG I (i 0).val Z ((Rect.unit (s := S2048x24) ![n, 0] ![512, 24] inb').emb x) := by
    intro n hn inb inb' P A hP hA x
    obtain ⟨p, q, rfl⟩ : ∃ (p : Fin 512) (q : Fin 24), x = ix2 p q := ⟨x 0, x 1, eq_ix2 x⟩
    have e : ∀ (v1 : FVec Ideal S512x256 .bf16) (v2 : Vec Ideal S512x24 .f32) (v3 : FVec Ideal S24x256 .bf16),
        k0_pay79 v3 v1 v2 (ix2 p q) = (v2 (ix2 p q) + ∑ o : Fin 256, v1 (ix2 p o) * v3 (ix2 q o) : EReal) := by
      intro v1 v2 v3
      pointwise [k0_pay79]
    have hp := p.2
    have hq := q.2
    rw [hP, e, hA]
    unfold HG
    refine congrArg₂ (fun u v : EReal => u + v) rfl (Finset.sum_congr rfl fun o _ => ?_)
    rw [dp_eq B n hn inb p o, bt_eq B q o, msk_mul, emb2 n 0 inb' p q (by omega) (by omega)]
    show _ = msk (fun o => D I ⟨n + p.val, _⟩ o * I.b ⟨0 + q.val, _⟩ o) _
    simp only [Nat.zero_add]
  funext y
  refine View.canon_append_of_piecesOf (HG I (i 0).val Z) L' (hL i x0 x6 x7 x8 a0 a1 a2 a3) ?_ y ?_
  · exact ⟨key 1536 (by decide) inb_S2048x256_S512x256_1536_0 inb_S2048x24_S512x24_1536_0 _ _ rfl h3,
      key 1024 (by decide) inb_S2048x256_S512x256_1024_0 inb_S2048x24_S512x24_1024_0 _ _ rfl h2,
      key 512 (by decide) inb_S2048x256_S512x256_512_0 inb_S2048x24_S512x24_512_0 _ _ rfl h1,
      key 0 (by decide) inb_S2048x256_S512x256_0_0 inb_S2048x24_S512x24_0_0 _ _ rfl h0, trivial⟩
  · exact View.cover_of_tiledL (hL i x0 x6 x7 x8 a0 a1 a2 a3) ![512, 24] (by sl_kernel_rfl) y

/-- The stores of the activations through the first factor read back. -/
theorem xa_canon (B : Blk I (i 0).val x0 x1 x2 x3 x4 x5 x6 x7 x8) : View.canon (xaL x1 x2 x5) = XG I := by
  have key : ∀ (n : ℕ) (hn : n + 512 ≤ 2048)
      (inb : ∀ a, (![n, 0] : Fin 2 → ℕ) a + (![512, 2816] : Fin 2 → ℕ) a ≤ S2048x2816.size a)
      (inb1 : ∀ a, (![n, 0] : Fin 2 → ℕ) a + (![512, 1] : Fin 2 → ℕ) a ≤ S2048x1.size a)
      (inb' : ∀ a, (![n, 0] : Fin 2 → ℕ) a + (![512, 24] : Fin 2 → ℕ) a ≤ S2048x24.size a) (P : FVec Ideal S512x24 .bf16)
      (_ : P = k0_pay6 (View.ld x1 (Rect.unit (s := S2048x2816) ![n, 0] ![512, 2816] inb)) x5 (View.ld x2 (Rect.unit (s := S2048x1) ![n, 0] ![512, 1] inb1)))
      (x : S512x24.Idx), P x = XG I ((Rect.unit (s := S2048x24) ![n, 0] ![512, 24] inb').emb x) := by
    intro n hn inb inb1 inb' P hP x
    obtain ⟨p, q, rfl⟩ : ∃ (p : Fin 512) (q : Fin 24), x = ix2 p q := ⟨x 0, x 1, eq_ix2 x⟩
    have e : ∀ (v1 : Vec Ideal S512x2816 .fp8e4m3) (v2 : Vec Ideal S24x2816 .bf16) (v3 : Vec Ideal S512x1 .f32),
        k0_pay6 v1 v2 v3 (ix2 p q) = ((∑ c : Fin 2816, v1 (ix2 p c) * v2 (ix2 q c)) * v3 (ix2 p (0 : Fin 1)) : EReal) := by
      intro v1 v2 v3
      pointwise [k0_pay6]
    have hp := p.2
    have hq := q.2
    rw [hP, e, emb2 n 0 inb' p q (by omega) (by omega), ld2 x2 n 0 inb1 p 0 (by omega) (by decide)]
    show _ = XA I ⟨n + p.val, _⟩ ⟨0 + q.val, _⟩
    unfold XA
    simp only [Nat.zero_add]
    refine congrArg₂ (fun u v : EReal => u * v) (Finset.sum_congr rfl fun c _ => ?_) (B.h2 _)
    rw [ld2 x1 n 0 inb p c (by omega) (by have := c.2; omega), B.h5]
    simp only [Nat.zero_add]
    rw [← B.h1]
  funext y
  refine View.canon_append_of_piecesOf (XG I) [] (xaL x1 x2 x5) ?_ y ?_
  · exact ⟨key 1536 (by decide) inb_S2048x2816_S512x2816_1536_0 inb_S2048x1_S512x1_1536_0 inb_S2048x24_S512x24_1536_0 _ rfl,
      key 1024 (by decide) inb_S2048x2816_S512x2816_1024_0 inb_S2048x1_S512x1_1024_0 inb_S2048x24_S512x24_1024_0 _ rfl,
      key 512 (by decide) inb_S2048x2816_S512x2816_512_0 inb_S2048x1_S512x1_512_0 inb_S2048x24_S512x24_512_0 _ rfl,
      key 0 (by decide) inb_S2048x2816_S512x2816_0_0 inb_S2048x1_S512x1_0_0 inb_S2048x24_S512x24_0_0 _ rfl, trivial⟩
  · exact View.cover_of_tiledL (xaL x1 x2 x5) ![512, 24] (by sl_kernel_rfl) y

/-- The stores of the activations' gradient read back: the accumulator. -/
theorem dx_canon (Z : Vec Ideal S2048x2816 .f32) (a0 a1 a2 a3 : Vec Ideal S512x2816 .f32)
    (h0 : a0 = View.ld Z (Rect.unit (s := S2048x2816) ![0, 0] ![512, 2816] inb_S2048x2816_S512x2816_0_0))
    (h1 : a1 = View.ld Z (Rect.unit (s := S2048x2816) ![512, 0] ![512, 2816] inb_S2048x2816_S512x2816_512_0))
    (h2 : a2 = View.ld Z (Rect.unit (s := S2048x2816) ![1024, 0] ![512, 2816] inb_S2048x2816_S512x2816_1024_0))
    (h3 : a3 = View.ld Z (Rect.unit (s := S2048x2816) ![1536, 0] ![512, 2816] inb_S2048x2816_S512x2816_1536_0)) :
    View.canon (dxL a0 a1 a2 a3) = (Z : S2048x2816.Idx → EReal) := by
  subst h0 h1 h2 h3
  funext y
  refine View.canon_append_of_piecesOf (Z : S2048x2816.Idx → EReal) [] (dxL _ _ _ _) ?_ y ?_
  · exact ⟨fun _ => rfl, fun _ => rfl, fun _ => rfl, fun _ => rfl, trivial⟩
  · exact View.cover_of_tiledL (dxL _ _ _ _) ![512, 2816] (by sl_kernel_rfl) y

/-- The sum over the 2048 tokens, in four blocks. -/
theorem sum_tokens (f : Fin 2048 → EReal) : ∑ i, f i
    = (((∑ r : Fin 512, f ⟨r.val, by have := r.2; omega⟩) + ∑ r : Fin 512, f ⟨512 + r.val, by have := r.2; omega⟩)
      + ∑ r : Fin 512, f ⟨1024 + r.val, by have := r.2; omega⟩) + ∑ r : Fin 512, f ⟨1536 + r.val, by have := r.2; omega⟩ := by
  rw [Fin.sum_univ_add (a := 1536) (b := 512) f, Fin.sum_univ_add (a := 1024) (b := 512), Fin.sum_univ_add (a := 512) (b := 512)]
  rfl

/-- The stored block of the second factor's gradient, at a column of the array. -/
theorem db_eq (r : Fin 24) (o : Fin 256) (h : 256 * (i 0).val + o.val < 5760) :
    dbV (XG I) (DG I (i 0).val) (ix2 r o) = DB I r ⟨256 * (i 0).val + o.val, h⟩ := by
  have e : ∀ (v1 : Vec Ideal S2048x24 .bf16) (v2 : Vec Ideal S2048x256 .bf16),
      dbV v1 v2 (ix2 r o) = (half * ∑ t : Fin 2048, v1 (ix2 t r) * v2 (ix2 t o) : EReal) := by
    intro v1 v2
    unfold half
    pointwise [dbV, k0_pay1, k0_pay101]
  rw [e]
  unfold DB
  refine congrArg (fun v : EReal => half * v) (Finset.sum_congr rfl fun t _ => ?_)
  exact congrArg (fun v : EReal => XA I t r * v) (msk_lt _ h)

/-- The stored block of the magnitudes' gradient, at a column of the array. -/
theorem dm_eq (B : Blk I (i 0).val x0 x1 x2 x3 x4 x5 x6 x7 x8) (o : Fin 256) (h : 256 * (i 0).val + o.val < 5760) :
    dmV i x0 x1 x2 x8 (VG I (i 0).val) (ix2 (0 : Fin 1) o) = DM I ⟨256 * (i 0).val + o.val, h⟩ := by
  have hv : ∀ c : Fin 2816, VG I (i 0).val (ix2 o c) = V I ⟨256 * (i 0).val + o.val, h⟩ c := fun c => msk_lt _ h
  unfold dmV
  pointwise [k0_pay100, k0_pay91, k0_pay84, k0_pay77, k0_pay83, k0_pay87, k0_pay90, k0_pay94, k0_pay97, k0_pay74, k0_pay80]
  simp only [mask_at, if_pos h, B.h0 _ o h, B.h8 o h, B.h1, B.h2, hv]
  unfold DM XV
  rw [sum_tokens]

/-- The stored gradient of the first factor. -/
theorem da_eq (B : Blk I (i 0).val x0 x1 x2 x3 x4 x5 x6 x7 x8) (Z : Vec Ideal S2048x24 .f32) (a0 a1 a2 a3 : Vec Ideal S512x24 .f32)
    (h0 : a0 = View.ld Z (Rect.unit (s := S2048x24) ![0, 0] ![512, 24] inb_S2048x24_S512x24_0_0))
    (h1 : a1 = View.ld Z (Rect.unit (s := S2048x24) ![512, 0] ![512, 24] inb_S2048x24_S512x24_512_0))
    (h2 : a2 = View.ld Z (Rect.unit (s := S2048x24) ![1024, 0] ![512, 24] inb_S2048x24_S512x24_1024_0))
    (h3 : a3 = View.ld Z (Rect.unit (s := S2048x24) ![1536, 0] ![512, 24] inb_S2048x24_S512x24_1536_0))
    (r : Fin 24) (c : Fin 2816) :
    daV x1 x2 a0 a1 a2 a3 (ix2 r c) = (half * ∑ t : Fin 2048, Z (ix2 t r) * (I.x t c * I.xs t) : EReal) := by
  have e : daV x1 x2 a0 a1 a2 a3 (ix2 r c) = (half * ((((∑ t : Fin 512, a0 (ix2 t r) * (x1 (ix2 ⟨t.val, by have := t.2; omega⟩ c) * x2 (ix2 ⟨t.val, by have := t.2; omega⟩ (0 : Fin 1))))
      + ∑ t : Fin 512, a1 (ix2 t r) * (x1 (ix2 ⟨512 + t.val, by have := t.2; omega⟩ c) * x2 (ix2 ⟨512 + t.val, by have := t.2; omega⟩ (0 : Fin 1))))
      + ∑ t : Fin 512, a2 (ix2 t r) * (x1 (ix2 ⟨1024 + t.val, by have := t.2; omega⟩ c) * x2 (ix2 ⟨1024 + t.val, by have := t.2; omega⟩ (0 : Fin 1))))
      + ∑ t : Fin 512, a3 (ix2 t r) * (x1 (ix2 ⟨1536 + t.val, by have := t.2; omega⟩ c) * x2 (ix2 ⟨1536 + t.val, by have := t.2; omega⟩ (0 : Fin 1)))) : EReal) := by
    unfold half
    pointwise [daV, k0_pay3, k0_pay10]
  have hr := r.2
  rw [e, sum_tokens, h0, h1, h2, h3]
  simp only [B.h1, B.h2]
  refine congrArg (fun v : EReal => half * v) (congrArg₂ (fun u v : EReal => u + v) (congrArg₂ (fun u v : EReal => u + v)
    (congrArg₂ (fun u v : EReal => u + v) ?_ ?_) ?_) ?_) <;> refine Finset.sum_congr rfl fun t _ => ?_ <;> have ht := t.2
  · rw [ld2 Z 0 0 inb_S2048x24_S512x24_0_0 t r (by omega) (by omega)]; simp only [Nat.zero_add]
  · rw [ld2 Z 512 0 inb_S2048x24_S512x24_512_0 t r (by omega) (by omega)]; simp only [Nat.zero_add]
  · rw [ld2 Z 1024 0 inb_S2048x24_S512x24_1024_0 t r (by omega) (by omega)]; simp only [Nat.zero_add]
  · rw [ld2 Z 1536 0 inb_S2048x24_S512x24_1536_0 t r (by omega) (by omega)]; simp only [Nat.zero_add]

end Cert.KernelIdeal.Value

end
-- ==== Proof.Value.ReadBack.lean ====
/-
  Reading back what the stores of one grid point left: the shared forms.
-/
module

public import proofs.«01_k».proof.Proof.Value.Lists

@[expose] public section

set_option maxRecDepth 16384
noncomputable section

namespace Cert.KernelIdeal.Value
open Cert.KernelIdeal Cert.KernelIdeal.Gen Cert.Value
open Idealize.ShloMosaic Idealize.ShloMosaic.TcCoe Idealize.ShloMosaic.WordCmp Idealize.ShloMosaic.Tactic

/-- The offset of every whole-buffer access. -/
theorem hz2 : (![0, 0] : Fin 2 → ℕ) = fun _ => 0 := funext fun a => match a with
  | 0 => rfl
  | 1 => rfl

/-- A load of the whole buffer reads the canonical contents. -/
theorem readCov_whole {S : Shape} {e : EltTy} [∀ e, Nonempty (Elt Ideal e)] (v : View sig .tc .vmem S e) (L : List (View.Piece (Elt Ideal) S e)) {off : Fin S.rank → ℕ}
    (h : off = fun _ => 0) (inb : ∀ a, off a + S.size a ≤ S.size a) : v.readCov L (Rect.unit off S.size inb).toLoadRect = View.canon L := by
  rw [View.readCov_eq_canon']
  exact View.ld_unit_zero h inb (View.canon L)

/-- The first store into the accumulator, over the block `a`. -/
def accP0 (i : grid0.Coords) (x0 : Vec Ideal S2048x256 .bf16) (x7 x8 : Vec Ideal S1x256 .f32) (vt : Vec Ideal S256x2816 .bf16) (a : Vec Ideal S512x2816 .f32) : View.Piece (Elt Ideal) S2048x2816 .f32 :=
  ⟨Rect.unit ![0, 0] ![512, 2816] inb_S2048x2816_S512x2816_0_0, k0_pay78 (k0_pay75 (k0_pay15 i) (k0_pay17 i x7 x8) (View.ld x0 (Rect.unit ![0, 0] ![512, 256] inb_S2048x256_S512x256_0_0))) a vt⟩

/-- The second store into the accumulator, over the block `a`. -/
def accP1 (i : grid0.Coords) (x0 : Vec Ideal S2048x256 .bf16) (x7 x8 : Vec Ideal S1x256 .f32) (vt : Vec Ideal S256x2816 .bf16) (a : Vec Ideal S512x2816 .f32) : View.Piece (Elt Ideal) S2048x2816 .f32 :=
  ⟨Rect.unit ![512, 0] ![512, 2816] inb_S2048x2816_S512x2816_512_0, k0_pay85 (k0_pay81 (k0_pay15 i) (k0_pay17 i x7 x8) (View.ld x0 (Rect.unit ![512, 0] ![512, 256] inb_S2048x256_S512x256_512_0))) a vt⟩

/-- The third store into the accumulator, over the block `a`. -/
def accP2 (i : grid0.Coords) (x0 : Vec Ideal S2048x256 .bf16) (x7 x8 : Vec Ideal S1x256 .f32) (vt : Vec Ideal S256x2816 .bf16) (a : Vec Ideal S512x2816 .f32) : View.Piece (Elt Ideal) S2048x2816 .f32 :=
  ⟨Rect.unit ![1024, 0] ![512, 2816] inb_S2048x2816_S512x2816_1024_0, k0_pay92 (k0_pay88 (k0_pay15 i) (k0_pay17 i x7 x8) (View.ld x0 (Rect.unit ![1024, 0] ![512, 256] inb_S2048x256_S512x256_1024_0))) a vt⟩

/-- The fourth store into the accumulator, over the block `a`. -/
def accP3 (i : grid0.Coords) (x0 : Vec Ideal S2048x256 .bf16) (x7 x8 : Vec Ideal S1x256 .f32) (vt : Vec Ideal S256x2816 .bf16) (a : Vec Ideal S512x2816 .f32) : View.Piece (Elt Ideal) S2048x2816 .f32 :=
  ⟨Rect.unit ![1536, 0] ![512, 2816] inb_S2048x2816_S512x2816_1536_0, k0_pay98 (k0_pay95 (k0_pay15 i) (k0_pay17 i x7 x8) (View.ld x0 (Rect.unit ![1536, 0] ![512, 256] inb_S2048x256_S512x256_1536_0))) a vt⟩

/-- The zero fill of the accumulator, at the first grid point. -/
def accZ : View.Piece (Elt Ideal) S2048x2816 .f32 := ⟨Rect.unit ![0, 0] ![2048, 2816] inb_S2048x2816_S2048x2816_0_0, k0_pay4 (F := Ideal)⟩

/-- The stores into the accumulator at the first grid point: the zero fill and the four blocks, each over what a load of it reads. -/
def accA (v : View sig .tc .vmem S2048x2816 .f32) (i : grid0.Coords) (x0 : Vec Ideal S2048x256 .bf16) (x7 x8 : Vec Ideal S1x256 .f32) (vt : Vec Ideal S256x2816 .bf16) : List (View.Piece (Elt Ideal) S2048x2816 .f32) :=
  have p0 := accP0 i x0 x7 x8 vt (v.readCov [accZ] (Rect.unit (s := S2048x2816) ![0, 0] ![512, 2816] inb_S2048x2816_S512x2816_0_0).toLoadRect)
  have p1 := accP1 i x0 x7 x8 vt (v.readCov [p0, accZ] (Rect.unit (s := S2048x2816) ![512, 0] ![512, 2816] inb_S2048x2816_S512x2816_512_0).toLoadRect)
  have p2 := accP2 i x0 x7 x8 vt (v.readCov [p1, p0, accZ] (Rect.unit (s := S2048x2816) ![1024, 0] ![512, 2816] inb_S2048x2816_S512x2816_1024_0).toLoadRect)
  have p3 := accP3 i x0 x7 x8 vt (v.readCov [p2, p1, p0, accZ] (Rect.unit (s := S2048x2816) ![1536, 0] ![512, 2816] inb_S2048x2816_S512x2816_1536_0).toLoadRect)
  [p3, p2, p1, p0, accZ]

/-- They leave the grid point's block added to zero. -/
theorem accA_canon {I : In} {i : grid0.Coords} {x0 : Vec Ideal S2048x256 .bf16} {x1 : Vec Ideal S2048x2816 .fp8e4m3} {x2 : Vec Ideal S2048x1 .f32} {x3 : Vec Ideal S128x2816 .i8}
    {x4 : Vec Ideal S22x256 .bf16} {x5 : Vec Ideal S24x2816 .bf16} {x6 : Vec Ideal S24x256 .bf16} {x7 x8 : Vec Ideal S1x256 .f32}
    (B : Blk I (i 0).val x0 x1 x2 x3 x4 x5 x6 x7 x8) (v : View sig .tc .vmem S2048x2816 .f32) :
    View.canon (accA v i x0 x7 x8 (VG I (i 0).val)) = AG I (i 0).val (fun _ => (0 : EReal)) := by
  have e0 : ∀ y, (k0_pay4 (F := Ideal)) y = (0 : EReal) := by
    intro y
    obtain ⟨p, q, rfl⟩ : ∃ (p : Fin 2048) (q : Fin 2816), y = ix2 p q := ⟨y 0, y 1, eq_ix2 y⟩
    pointwise [k0_pay4]
  have ez : (k0_pay4 (F := Ideal)) = fun _ => (0 : EReal) := funext e0
  have hz : ∀ a, (![0, 0] : Fin 2 → ℕ) a = 0 := fun a => congrFun hz2 a
  have f : ∀ r : Rect S2048x2816, v.readCov [accZ] r.toLoadRect = View.ld (fun _ => (0 : EReal)) r := fun r => by
    rw [← ez]
    exact View.readCov_fill v inb_S2048x2816_S2048x2816_0_0 _ [] r hz
  refine acc_canon B (fun _ => (0 : EReal)) _ _ _ _ (f _) ?_ ?_ ?_ [accZ]
  · exact (View.readCov_skip v _ _ _ _ (by decide)).trans (f _)
  · exact ((View.readCov_skip v _ _ _ _ (by decide)).trans (View.readCov_skip v _ _ _ _ (by decide))).trans (f _)
  · exact (((View.readCov_skip v _ _ _ _ (by decide)).trans (View.readCov_skip v _ _ _ _ (by decide))).trans (View.readCov_skip v _ _ _ _ (by decide))).trans (f _)

/-- The first store into the accumulator, over the block `a`. -/
def hP0 (i : grid0.Coords) (x0 : Vec Ideal S2048x256 .bf16) (x6 : Vec Ideal S24x256 .bf16) (x7 x8 : Vec Ideal S1x256 .f32) (a : Vec Ideal S512x24 .f32) : View.Piece (Elt Ideal) S2048x24 .f32 :=
  ⟨Rect.unit ![0, 0] ![512, 24] inb_S2048x24_S512x24_0_0, k0_pay79 (k0_pay16 i x6) (k0_pay75 (k0_pay15 i) (k0_pay17 i x7 x8) (View.ld x0 (Rect.unit ![0, 0] ![512, 256] inb_S2048x256_S512x256_0_0))) a⟩

/-- The second store into the accumulator, over the block `a`. -/
def hP1 (i : grid0.Coords) (x0 : Vec Ideal S2048x256 .bf16) (x6 : Vec Ideal S24x256 .bf16) (x7 x8 : Vec Ideal S1x256 .f32) (a : Vec Ideal S512x24 .f32) : View.Piece (Elt Ideal) S2048x24 .f32 :=
  ⟨Rect.unit ![512, 0] ![512, 24] inb_S2048x24_S512x24_512_0, k0_pay86 (k0_pay16 i x6) (k0_pay81 (k0_pay15 i) (k0_pay17 i x7 x8) (View.ld x0 (Rect.unit ![512, 0] ![512, 256] inb_S2048x256_S512x256_512_0))) a⟩

/-- The third store into the accumulator, over the block `a`. -/
def hP2 (i : grid0.Coords) (x0 : Vec Ideal S2048x256 .bf16) (x6 : Vec Ideal S24x256 .bf16) (x7 x8 : Vec Ideal S1x256 .f32) (a : Vec Ideal S512x24 .f32) : View.Piece (Elt Ideal) S2048x24 .f32 :=
  ⟨Rect.unit ![1024, 0] ![512, 24] inb_S2048x24_S512x24_1024_0, k0_pay93 (k0_pay16 i x6) (k0_pay88 (k0_pay15 i) (k0_pay17 i x7 x8) (View.ld x0 (Rect.unit ![1024, 0] ![512, 256] inb_S2048x256_S512x256_1024_0))) a⟩

/-- The fourth store into the accumulator, over the block `a`. -/
def hP3 (i : grid0.Coords) (x0 : Vec Ideal S2048x256 .bf16) (x6 : Vec Ideal S24x256 .bf16) (x7 x8 : Vec Ideal S1x256 .f32) (a : Vec Ideal S512x24 .f32) : View.Piece (Elt Ideal) S2048x24 .f32 :=
  ⟨Rect.unit ![1536, 0] ![512, 24] inb_S2048x24_S512x24_1536_0, k0_pay99 (k0_pay16 i x6) (k0_pay95 (k0_pay15 i) (k0_pay17 i x7 x8) (View.ld x0 (Rect.unit ![1536, 0] ![512, 256] inb_S2048x256_S512x256_1536_0))) a⟩

/-- The zero fill of the accumulator, at the first grid point. -/
def hZ : View.Piece (Elt Ideal) S2048x24 .f32 := ⟨Rect.unit ![0, 0] ![2048, 24] inb_S2048x24_S2048x24_0_0, k0_pay5 (F := Ideal)⟩

/-- The stores into the accumulator at the first grid point: the zero fill and the four blocks, each over what a load of it reads. -/
def hA (v : View sig .tc .vmem S2048x24 .f32) (i : grid0.Coords) (x0 : Vec Ideal S2048x256 .bf16) (x6 : Vec Ideal S24x256 .bf16) (x7 x8 : Vec Ideal S1x256 .f32) : List (View.Piece (Elt Ideal) S2048x24 .f32) :=
  have p0 := hP0 i x0 x6 x7 x8 (v.readCov [hZ] (Rect.unit (s := S2048x24) ![0, 0] ![512, 24] inb_S2048x24_S512x24_0_0).toLoadRect)
  have p1 := hP1 i x0 x6 x7 x8 (v.readCov [p0, hZ] (Rect.unit (s := S2048x24) ![512, 0] ![512, 24] inb_S2048x24_S512x24_512_0).toLoadRect)
  have p2 := hP2 i x0 x6 x7 x8 (v.readCov [p1, p0, hZ] (Rect.unit (s := S2048x24) ![1024, 0] ![512, 24] inb_S2048x24_S512x24_1024_0).toLoadRect)
  have p3 := hP3 i x0 x6 x7 x8 (v.readCov [p2, p1, p0, hZ] (Rect.unit (s := S2048x24) ![1536, 0] ![512, 24] inb_S2048x24_S512x24_1536_0).toLoadRect)
  [p3, p2, p1, p0, hZ]

/-- They leave the grid point's block added to zero. -/
theorem hA_canon {I : In} {i : grid0.Coords} {x0 : Vec Ideal S2048x256 .bf16} {x1 : Vec Ideal S2048x2816 .fp8e4m3} {x2 : Vec Ideal S2048x1 .f32} {x3 : Vec Ideal S128x2816 .i8}
    {x4 : Vec Ideal S22x256 .bf16} {x5 : Vec Ideal S24x2816 .bf16} {x6 : Vec Ideal S24x256 .bf16} {x7 x8 : Vec Ideal S1x256 .f32}
    (B : Blk I (i 0).val x0 x1 x2 x3 x4 x5 x6 x7 x8) (v : View sig .tc .vmem S2048x24 .f32) :
    View.canon (hA v i x0 x6 x7 x8) = HG I (i 0).val (fun _ => (0 : EReal)) := by
  have e0 : ∀ y, (k0_pay5 (F := Ideal)) y = (0 : EReal) := by
    intro y
    obtain ⟨p, q, rfl⟩ : ∃ (p : Fin 2048) (q : Fin 24), y = ix2 p q := ⟨y 0, y 1, eq_ix2 y⟩
    pointwise [k0_pay5]
  have ez : (k0_pay5 (F := Ideal)) = fun _ => (0 : EReal) := funext e0
  have hz : ∀ a, (![0, 0] : Fin 2 → ℕ) a = 0 := fun a => congrFun hz2 a
  have f : ∀ r : Rect S2048x24, v.readCov [hZ] r.toLoadRect = View.ld (fun _ => (0 : EReal)) r := fun r => by
    rw [← ez]
    exact View.readCov_fill v inb_S2048x24_S2048x24_0_0 _ [] r hz
  refine h_canon B (fun _ => (0 : EReal)) _ _ _ _ (f _) ?_ ?_ ?_ [hZ]
  · exact (View.readCov_skip v _ _ _ _ (by decide)).trans (f _)
  · exact ((View.readCov_skip v _ _ _ _ (by decide)).trans (View.readCov_skip v _ _ _ _ (by decide))).trans (f _)
  · exact (((View.readCov_skip v _ _ _ _ (by decide)).trans (View.readCov_skip v _ _ _ _ (by decide))).trans (View.readCov_skip v _ _ _ _ (by decide))).trans (f _)

end Cert.KernelIdeal.Value

end
-- ==== Proof.Value.CaseA.lean ====
/-
  What the first grid point leaves in each buffer that it stores into.
-/
module

public import proofs.«01_k».proof.Proof.Value.ReadBack
public import proofs.«01_k».proof.Proof.KernelIdealBody.RunA

@[expose] public section

set_option maxRecDepth 16384
noncomputable section

namespace Cert.KernelIdeal.Value
open Cert.KernelIdeal Cert.KernelIdeal.Gen Cert.KernelIdeal.Body Cert.Value
open Idealize.ShloMosaic Idealize.ShloMosaic.TcCoe Idealize.ShloMosaic.WordCmp Idealize.ShloMosaic.Tactic

variable {I : In} {c : Dev nD} {i : grid0.Coords} {arg1 : Memref sig .tc .vmem S2048x256 .bf16} {harg1 : arg1.IsWhole} {arg2 : Memref sig .tc .vmem S2048x2816 .fp8e4m3} {harg2 : arg2.IsWhole} {arg3 : Memref sig .tc .vmem S2048x1 .f32} {harg3 : arg3.IsWhole} {arg4 : Memref sig .tc .vmem S128x2816 .i8} {harg4 : arg4.IsWhole} {arg5 : Memref sig .tc .vmem S22x256 .bf16} {harg5 : arg5.IsWhole} {arg6 : Memref sig .tc .vmem S24x2816 .bf16} {harg6 : arg6.IsWhole} {arg7 : Memref sig .tc .vmem S24x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S2048x2816 .bf16} {harg10 : arg10.IsWhole} {arg11 : Memref sig .tc .vmem S24x2816 .bf16} {harg11 : arg11.IsWhole} {arg12 : Memref sig .tc .vmem S24x256 .bf16} {harg12 : arg12.IsWhole} {arg13 : Memref sig .tc .vmem S1x256 .f32} {harg13 : arg13.IsWhole} {arg14 : Memref sig .tc .vmem S2048x2816 .f32} {harg14 : arg14.IsWhole} {arg15 : Memref sig .tc .vmem S256x2816 .bf16} {harg15 : arg15.IsWhole} {arg16 : Memref sig .tc .vmem S2048x24 .f32} {harg16 : arg16.IsWhole} {arg17 : Memref sig .tc .vmem S2048x24 .bf16} {harg17 : arg17.IsWhole} {arg18 : Memref sig .tc .vmem S2048x256 .bf16} {harg18 : arg18.IsWhole}
  {x0 : Vec Ideal S2048x256 .bf16} {x1 : Vec Ideal S2048x2816 .fp8e4m3} {x2 : Vec Ideal S2048x1 .f32} {x3 : Vec Ideal S128x2816 .i8} {x4 : Vec Ideal S22x256 .bf16}
  {x5 : Vec Ideal S24x2816 .bf16} {x6 : Vec Ideal S24x256 .bf16} {x7 x8 : Vec Ideal S1x256 .f32} {hc0 : cond0_0 i} {hc1 : ¬cond0_1 i}

/-- What the point leaves in the accumulator of the activations' gradient. -/
theorem runA_acc (B : Blk I (i 0).val x0 x1 x2 x3 x4 x5 x6 x7 x8) (f : arg14.view.ty.Contents (Elt Ideal)) :
    arg14.view.read (Elt Ideal) (arg14.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.1) = AG I (i 0).val (fun _ => (0 : EReal)) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.1 = accA arg14.view i x0 x7 x8 (arg15.view.readCov (vtL i x3 x4 x5 x6) (Rect.unit (s := S256x2816) ![0, 0] ![256, 2816] inb_S256x2816_S256x2816_0_0).toLoadRect) := by
    unfold kernelRun0_A
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![512, 2816] (by sl_kernel_rfl))]
  exact accA_canon B arg14.view

/-- What the point leaves in the accumulator of the gradient through the second factor. -/
theorem runA_h (B : Blk I (i 0).val x0 x1 x2 x3 x4 x5 x6 x7 x8) (f : arg16.view.ty.Contents (Elt Ideal)) :
    arg16.view.read (Elt Ideal) (arg16.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.1) = HG I (i 0).val (fun _ => (0 : EReal)) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.1 = hA arg16.view i x0 x6 x7 x8 := by
    unfold kernelRun0_A
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, View.read_writes_eq_canon _ _ _ (View.cover_of_tiledL _ ![512, 24] (by sl_kernel_rfl))]
  exact hA_canon B arg16.view

/-- What the first point leaves in the buffer of the activations through the first factor. -/
theorem runA_xa (B : Blk I (i 0).val x0 x1 x2 x3 x4 x5 x6 x7 x8) (f : arg17.view.ty.Contents (Elt Ideal)) :
    arg17.view.read (Elt Ideal) (arg17.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.1) = XG I := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.1 = xaL x1 x2 x5 := by
    unfold kernelRun0_A
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, View.read_writes_eq_canon _ _ _ (View.cover_of_tiledL _ ![512, 24] (by sl_kernel_rfl))]
  exact xa_canon B

/-- What the point leaves in the block of the second factor's gradient. -/
theorem runA_db (B : Blk I (i 0).val x0 x1 x2 x3 x4 x5 x6 x7 x8) (f : arg12.view.ty.Contents (Elt Ideal)) :
    arg12.view.read (Elt Ideal) (arg12.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.1) = dbV (XG I) (DG I (i 0).val) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.1 = [⟨Rect.unit (s := S24x256) ![0, 0] ![24, 256] inb_S24x256_S24x256_0_0, dbV (arg17.view.readCov (xaL x1 x2 x5) (Rect.unit (s := S2048x24) ![0, 0] ![2048, 24] inb_S2048x24_S2048x24_0_0).toLoadRect) (arg18.view.readCov (dypL i x0 x7 x8) (Rect.unit (s := S2048x256) ![0, 0] ![2048, 256] inb_S2048x256_S2048x256_0_0).toLoadRect)⟩] := by
    unfold kernelRun0_A
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S2048x256) arg18.view _ hz2 inb_S2048x256_S2048x256_0_0, dyp_canon B, readCov_whole (S := S2048x24) arg17.view _ hz2 inb_S2048x24_S2048x24_0_0, xa_canon B, View.read_writes_eq_canon _ _ _ (View.cover_of_tiledL _ ![24, 256] (by sl_kernel_rfl))]
  exact View.canon_unit_zero (S := S24x256) hz2 inb_S24x256_S24x256_0_0 _

/-- What the point leaves in the block of the magnitudes' gradient. -/
theorem runA_dm (B : Blk I (i 0).val x0 x1 x2 x3 x4 x5 x6 x7 x8) (f : arg13.view.ty.Contents (Elt Ideal)) :
    arg13.view.read (Elt Ideal) (arg13.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.1) = dmV i x0 x1 x2 x8 (VG I (i 0).val) := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.1 = [⟨Rect.unit (s := S1x256) ![0, 0] ![1, 256] inb_S1x256_S1x256_0_0, dmV i x0 x1 x2 x8 (arg15.view.readCov (vtL i x3 x4 x5 x6) (Rect.unit (s := S256x2816) ![0, 0] ![256, 2816] inb_S256x2816_S256x2816_0_0).toLoadRect)⟩] := by
    unfold kernelRun0_A
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![1, 256] (by sl_kernel_rfl))]
  exact View.canon_unit_zero (S := S1x256) hz2 inb_S1x256_S1x256_0_0 _

end Cert.KernelIdeal.Value

end
-- ==== Proof.Value.CaseB.lean ====
/-
  What a middle grid point leaves in each buffer that it stores into.
-/
module

public import proofs.«01_k».proof.Proof.Value.ReadBack
public import proofs.«01_k».proof.Proof.KernelIdealBody.RunB

@[expose] public section

set_option maxRecDepth 16384
noncomputable section

namespace Cert.KernelIdeal.Value
open Cert.KernelIdeal Cert.KernelIdeal.Gen Cert.KernelIdeal.Body Cert.Value
open Idealize.ShloMosaic Idealize.ShloMosaic.TcCoe Idealize.ShloMosaic.WordCmp Idealize.ShloMosaic.Tactic

variable {I : In} {c : Dev nD} {i : grid0.Coords} {arg1 : Memref sig .tc .vmem S2048x256 .bf16} {harg1 : arg1.IsWhole} {arg2 : Memref sig .tc .vmem S2048x2816 .fp8e4m3} {harg2 : arg2.IsWhole} {arg3 : Memref sig .tc .vmem S2048x1 .f32} {harg3 : arg3.IsWhole} {arg4 : Memref sig .tc .vmem S128x2816 .i8} {harg4 : arg4.IsWhole} {arg5 : Memref sig .tc .vmem S22x256 .bf16} {harg5 : arg5.IsWhole} {arg6 : Memref sig .tc .vmem S24x2816 .bf16} {harg6 : arg6.IsWhole} {arg7 : Memref sig .tc .vmem S24x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S2048x2816 .bf16} {harg10 : arg10.IsWhole} {arg11 : Memref sig .tc .vmem S24x2816 .bf16} {harg11 : arg11.IsWhole} {arg12 : Memref sig .tc .vmem S24x256 .bf16} {harg12 : arg12.IsWhole} {arg13 : Memref sig .tc .vmem S1x256 .f32} {harg13 : arg13.IsWhole} {arg14 : Memref sig .tc .vmem S2048x2816 .f32} {harg14 : arg14.IsWhole} {arg15 : Memref sig .tc .vmem S256x2816 .bf16} {harg15 : arg15.IsWhole} {arg16 : Memref sig .tc .vmem S2048x24 .f32} {harg16 : arg16.IsWhole} {arg17 : Memref sig .tc .vmem S2048x24 .bf16} {harg17 : arg17.IsWhole} {arg18 : Memref sig .tc .vmem S2048x256 .bf16} {harg18 : arg18.IsWhole}
  {x0 : Vec Ideal S2048x256 .bf16} {x1 : Vec Ideal S2048x2816 .fp8e4m3} {x2 : Vec Ideal S2048x1 .f32} {x3 : Vec Ideal S128x2816 .i8} {x4 : Vec Ideal S22x256 .bf16}
  {x5 : Vec Ideal S24x2816 .bf16} {x6 : Vec Ideal S24x256 .bf16} {x7 x8 : Vec Ideal S1x256 .f32} {hc0 : ¬cond0_0 i} {hc1 : ¬cond0_1 i} {xs0 : Vec Ideal S2048x2816 .f32} {xs2 : Vec Ideal S2048x24 .f32} {xs3 : Vec Ideal S2048x24 .bf16}

/-- What the point leaves in the accumulator of the activations' gradient. -/
theorem runB_acc (B : Blk I (i 0).val x0 x1 x2 x3 x4 x5 x6 x7 x8) (f : arg14.view.ty.Contents (Elt Ideal)) :
    arg14.view.read (Elt Ideal) (arg14.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.1) = AG I (i 0).val xs0 := by
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.1 = accL i x0 x7 x8 (arg15.view.readCov (vtL i x3 x4 x5 x6) (Rect.unit (s := S256x2816) ![0, 0] ![256, 2816] inb_S256x2816_S256x2816_0_0).toLoadRect) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0)) := by
    unfold kernelRun0_B
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![512, 2816] (by sl_kernel_rfl))]
  exact acc_canon B xs0 _ _ _ _ rfl rfl rfl rfl []

/-- What the point leaves in the accumulator of the gradient through the second factor. -/
theorem runB_h (B : Blk I (i 0).val x0 x1 x2 x3 x4 x5 x6 x7 x8) (f : arg16.view.ty.Contents (Elt Ideal)) :
    arg16.view.read (Elt Ideal) (arg16.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.2.1) = HG I (i 0).val xs2 := by
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.2.1 = hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0)) := by
    unfold kernelRun0_B
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, View.read_writes_eq_canon _ _ _ (View.cover_of_tiledL _ ![512, 24] (by sl_kernel_rfl))]
  exact h_canon B xs2 _ _ _ _ rfl rfl rfl rfl []

/-- What the point leaves in the block of the second factor's gradient. -/
theorem runB_db (B : Blk I (i 0).val x0 x1 x2 x3 x4 x5 x6 x7 x8) (hxa : xs3 = XG I) (f : arg12.view.ty.Contents (Elt Ideal)) :
    arg12.view.read (Elt Ideal) (arg12.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.1) = dbV (XG I) (DG I (i 0).val) := by
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.1 = [⟨Rect.unit (s := S24x256) ![0, 0] ![24, 256] inb_S24x256_S24x256_0_0, dbV xs3 (arg18.view.readCov (dypL i x0 x7 x8) (Rect.unit (s := S2048x256) ![0, 0] ![2048, 256] inb_S2048x256_S2048x256_0_0).toLoadRect)⟩] := by
    unfold kernelRun0_B
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S2048x256) arg18.view _ hz2 inb_S2048x256_S2048x256_0_0, dyp_canon B, hxa, View.read_writes_eq_canon _ _ _ (View.cover_of_tiledL _ ![24, 256] (by sl_kernel_rfl))]
  exact View.canon_unit_zero (S := S24x256) hz2 inb_S24x256_S24x256_0_0 _

/-- What the point leaves in the block of the magnitudes' gradient. -/
theorem runB_dm (B : Blk I (i 0).val x0 x1 x2 x3 x4 x5 x6 x7 x8) (f : arg13.view.ty.Contents (Elt Ideal)) :
    arg13.view.read (Elt Ideal) (arg13.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.1) = dmV i x0 x1 x2 x8 (VG I (i 0).val) := by
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.1 = [⟨Rect.unit (s := S1x256) ![0, 0] ![1, 256] inb_S1x256_S1x256_0_0, dmV i x0 x1 x2 x8 (arg15.view.readCov (vtL i x3 x4 x5 x6) (Rect.unit (s := S256x2816) ![0, 0] ![256, 2816] inb_S256x2816_S256x2816_0_0).toLoadRect)⟩] := by
    unfold kernelRun0_B
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![1, 256] (by sl_kernel_rfl))]
  exact View.canon_unit_zero (S := S1x256) hz2 inb_S1x256_S1x256_0_0 _

end Cert.KernelIdeal.Value

end
-- ==== Proof.Value.CaseC.lean ====
/-
  What the last grid point leaves in each buffer that it stores into.
-/
module

public import proofs.«01_k».proof.Proof.Value.ReadBack
public import proofs.«01_k».proof.Proof.KernelIdealBody.RunC

@[expose] public section

set_option maxRecDepth 16384
noncomputable section

namespace Cert.KernelIdeal.Value
open Cert.KernelIdeal Cert.KernelIdeal.Gen Cert.KernelIdeal.Body Cert.Value
open Idealize.ShloMosaic Idealize.ShloMosaic.TcCoe Idealize.ShloMosaic.WordCmp Idealize.ShloMosaic.Tactic

/-- The accumulator's stores over what it held, read back. -/
theorem acc_canon' {I : In} {i : grid0.Coords} {x0 : Vec Ideal S2048x256 .bf16} {x1 : Vec Ideal S2048x2816 .fp8e4m3} {x2 : Vec Ideal S2048x1 .f32} {x3 : Vec Ideal S128x2816 .i8}
    {x4 : Vec Ideal S22x256 .bf16} {x5 : Vec Ideal S24x2816 .bf16} {x6 : Vec Ideal S24x256 .bf16} {x7 x8 : Vec Ideal S1x256 .f32}
    (B : Blk I (i 0).val x0 x1 x2 x3 x4 x5 x6 x7 x8) (xs0 : Vec Ideal S2048x2816 .f32) : View.canon (accL i x0 x7 x8 (VG I (i 0).val) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0))) = AG I (i 0).val xs0 :=
  acc_canon B xs0 _ _ _ _ rfl rfl rfl rfl []

/-- The second accumulator's stores over what it held, read back. -/
theorem h_canon' {I : In} {i : grid0.Coords} {x0 : Vec Ideal S2048x256 .bf16} {x1 : Vec Ideal S2048x2816 .fp8e4m3} {x2 : Vec Ideal S2048x1 .f32} {x3 : Vec Ideal S128x2816 .i8}
    {x4 : Vec Ideal S22x256 .bf16} {x5 : Vec Ideal S24x2816 .bf16} {x6 : Vec Ideal S24x256 .bf16} {x7 x8 : Vec Ideal S1x256 .f32}
    (B : Blk I (i 0).val x0 x1 x2 x3 x4 x5 x6 x7 x8) (xs2 : Vec Ideal S2048x24 .f32) : View.canon (hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0))) = HG I (i 0).val xs2 :=
  h_canon B xs2 _ _ _ _ rfl rfl rfl rfl []

variable {I : In} {c : Dev nD} {i : grid0.Coords} {arg1 : Memref sig .tc .vmem S2048x256 .bf16} {harg1 : arg1.IsWhole} {arg2 : Memref sig .tc .vmem S2048x2816 .fp8e4m3} {harg2 : arg2.IsWhole} {arg3 : Memref sig .tc .vmem S2048x1 .f32} {harg3 : arg3.IsWhole} {arg4 : Memref sig .tc .vmem S128x2816 .i8} {harg4 : arg4.IsWhole} {arg5 : Memref sig .tc .vmem S22x256 .bf16} {harg5 : arg5.IsWhole} {arg6 : Memref sig .tc .vmem S24x2816 .bf16} {harg6 : arg6.IsWhole} {arg7 : Memref sig .tc .vmem S24x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S2048x2816 .bf16} {harg10 : arg10.IsWhole} {arg11 : Memref sig .tc .vmem S24x2816 .bf16} {harg11 : arg11.IsWhole} {arg12 : Memref sig .tc .vmem S24x256 .bf16} {harg12 : arg12.IsWhole} {arg13 : Memref sig .tc .vmem S1x256 .f32} {harg13 : arg13.IsWhole} {arg14 : Memref sig .tc .vmem S2048x2816 .f32} {harg14 : arg14.IsWhole} {arg15 : Memref sig .tc .vmem S256x2816 .bf16} {harg15 : arg15.IsWhole} {arg16 : Memref sig .tc .vmem S2048x24 .f32} {harg16 : arg16.IsWhole} {arg17 : Memref sig .tc .vmem S2048x24 .bf16} {harg17 : arg17.IsWhole} {arg18 : Memref sig .tc .vmem S2048x256 .bf16} {harg18 : arg18.IsWhole}
  {x0 : Vec Ideal S2048x256 .bf16} {x1 : Vec Ideal S2048x2816 .fp8e4m3} {x2 : Vec Ideal S2048x1 .f32} {x3 : Vec Ideal S128x2816 .i8} {x4 : Vec Ideal S22x256 .bf16}
  {x5 : Vec Ideal S24x2816 .bf16} {x6 : Vec Ideal S24x256 .bf16} {x7 x8 : Vec Ideal S1x256 .f32} {hc0 : ¬cond0_0 i} {hc1 : cond0_1 i} {xs0 : Vec Ideal S2048x2816 .f32} {xs2 : Vec Ideal S2048x24 .f32} {xs3 : Vec Ideal S2048x24 .bf16}

/-- What the point leaves in the accumulator of the activations' gradient. -/
theorem runC_acc (B : Blk I (i 0).val x0 x1 x2 x3 x4 x5 x6 x7 x8) (f : arg14.view.ty.Contents (Elt Ideal)) :
    arg14.view.read (Elt Ideal) (arg14.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.1) = AG I (i 0).val xs0 := by
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.1 = accL i x0 x7 x8 (arg15.view.readCov (vtL i x3 x4 x5 x6) (Rect.unit (s := S256x2816) ![0, 0] ![256, 2816] inb_S256x2816_S256x2816_0_0).toLoadRect) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0)) := by
    unfold kernelRun0_C
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![512, 2816] (by sl_kernel_rfl))]
  exact acc_canon B xs0 _ _ _ _ rfl rfl rfl rfl []

/-- What the point leaves in the accumulator of the gradient through the second factor. -/
theorem runC_h (B : Blk I (i 0).val x0 x1 x2 x3 x4 x5 x6 x7 x8) (f : arg16.view.ty.Contents (Elt Ideal)) :
    arg16.view.read (Elt Ideal) (arg16.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.2.1) = HG I (i 0).val xs2 := by
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.2.2.1 = hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0)) := by
    unfold kernelRun0_C
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, View.read_writes_eq_canon _ _ _ (View.cover_of_tiledL _ ![512, 24] (by sl_kernel_rfl))]
  exact h_canon B xs2 _ _ _ _ rfl rfl rfl rfl []

/-- What the point leaves in the block of the second factor's gradient. -/
theorem runC_db (B : Blk I (i 0).val x0 x1 x2 x3 x4 x5 x6 x7 x8) (hxa : xs3 = XG I) (f : arg12.view.ty.Contents (Elt Ideal)) :
    arg12.view.read (Elt Ideal) (arg12.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.1) = dbV (XG I) (DG I (i 0).val) := by
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.1 = [⟨Rect.unit (s := S24x256) ![0, 0] ![24, 256] inb_S24x256_S24x256_0_0, dbV xs3 (arg18.view.readCov (dypL i x0 x7 x8) (Rect.unit (s := S2048x256) ![0, 0] ![2048, 256] inb_S2048x256_S2048x256_0_0).toLoadRect)⟩] := by
    unfold kernelRun0_C
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S2048x256) arg18.view _ hz2 inb_S2048x256_S2048x256_0_0, dyp_canon B, hxa, View.read_writes_eq_canon _ _ _ (View.cover_of_tiledL _ ![24, 256] (by sl_kernel_rfl))]
  exact View.canon_unit_zero (S := S24x256) hz2 inb_S24x256_S24x256_0_0 _

/-- What the point leaves in the block of the magnitudes' gradient. -/
theorem runC_dm (B : Blk I (i 0).val x0 x1 x2 x3 x4 x5 x6 x7 x8) (f : arg13.view.ty.Contents (Elt Ideal)) :
    arg13.view.read (Elt Ideal) (arg13.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.1) = dmV i x0 x1 x2 x8 (VG I (i 0).val) := by
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.2.2.1 = [⟨Rect.unit (s := S1x256) ![0, 0] ![1, 256] inb_S1x256_S1x256_0_0, dmV i x0 x1 x2 x8 (arg15.view.readCov (vtL i x3 x4 x5 x6) (Rect.unit (s := S256x2816) ![0, 0] ![256, 2816] inb_S256x2816_S256x2816_0_0).toLoadRect)⟩] := by
    unfold kernelRun0_C
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![1, 256] (by sl_kernel_rfl))]
  exact View.canon_unit_zero (S := S1x256) hz2 inb_S1x256_S1x256_0_0 _

/-- What the last point leaves in the activations' gradient. -/
theorem runC_dx (B : Blk I (i 0).val x0 x1 x2 x3 x4 x5 x6 x7 x8) (f : arg10.view.ty.Contents (Elt Ideal)) :
    arg10.view.read (Elt Ideal) (arg10.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).1) = AG I (i 0).val xs0 := by
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).1 = dxL (arg14.view.readCov (accL i x0 x7 x8 (arg15.view.readCov (vtL i x3 x4 x5 x6) (Rect.unit (s := S256x2816) ![0, 0] ![256, 2816] inb_S256x2816_S256x2816_0_0).toLoadRect) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0))) (Rect.unit (s := S2048x2816) ![0, 0] ![512, 2816] inb_S2048x2816_S512x2816_0_0).toLoadRect) (arg14.view.readCov (accL i x0 x7 x8 (arg15.view.readCov (vtL i x3 x4 x5 x6) (Rect.unit (s := S256x2816) ![0, 0] ![256, 2816] inb_S256x2816_S256x2816_0_0).toLoadRect) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0))) (Rect.unit (s := S2048x2816) ![512, 0] ![512, 2816] inb_S2048x2816_S512x2816_512_0).toLoadRect) (arg14.view.readCov (accL i x0 x7 x8 (arg15.view.readCov (vtL i x3 x4 x5 x6) (Rect.unit (s := S256x2816) ![0, 0] ![256, 2816] inb_S256x2816_S256x2816_0_0).toLoadRect) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0))) (Rect.unit (s := S2048x2816) ![1024, 0] ![512, 2816] inb_S2048x2816_S512x2816_1024_0).toLoadRect) (arg14.view.readCov (accL i x0 x7 x8 (arg15.view.readCov (vtL i x3 x4 x5 x6) (Rect.unit (s := S256x2816) ![0, 0] ![256, 2816] inb_S256x2816_S256x2816_0_0).toLoadRect) (View.ld xs0 (Rect.unit (s := S2048x2816) ![0, 0] ![512, 2816] inb_S2048x2816_S512x2816_0_0)) (View.ld xs0 (Rect.unit (s := S2048x2816) ![512, 0] ![512, 2816] inb_S2048x2816_S512x2816_512_0)) (View.ld xs0 (Rect.unit (s := S2048x2816) ![1024, 0] ![512, 2816] inb_S2048x2816_S512x2816_1024_0)) (View.ld xs0 (Rect.unit (s := S2048x2816) ![1536, 0] ![512, 2816] inb_S2048x2816_S512x2816_1536_0))) (Rect.unit (s := S2048x2816) ![1536, 0] ![512, 2816] inb_S2048x2816_S512x2816_1536_0).toLoadRect) := by
    unfold kernelRun0_C
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, readCov_whole (S := S256x2816) arg15.view _ hz2 inb_S256x2816_S256x2816_0_0, vt_canon B, View.read_writes_eq_canon _ _ _ (View.cover_of_tiledL _ ![512, 2816] (by sl_kernel_rfl))]
  refine dx_canon (AG I (i 0).val xs0) _ _ _ _ ?_ ?_ ?_ ?_ <;> rw [View.readCov_eq_canon', acc_canon' B xs0] <;> rfl

/-- What the last point leaves in the first factor's gradient. -/
theorem runC_da (B : Blk I (i 0).val x0 x1 x2 x3 x4 x5 x6 x7 x8) (f : arg11.view.ty.Contents (Elt Ideal)) :
    arg11.view.read (Elt Ideal) (arg11.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.1) = daV x1 x2 (View.ld (HG I (i 0).val xs2) (Rect.unit (s := S2048x24) ![0, 0] ![512, 24] inb_S2048x24_S512x24_0_0)) (View.ld (HG I (i 0).val xs2) (Rect.unit (s := S2048x24) ![512, 0] ![512, 24] inb_S2048x24_S512x24_512_0)) (View.ld (HG I (i 0).val xs2) (Rect.unit (s := S2048x24) ![1024, 0] ![512, 24] inb_S2048x24_S512x24_1024_0)) (View.ld (HG I (i 0).val xs2) (Rect.unit (s := S2048x24) ![1536, 0] ![512, 24] inb_S2048x24_S512x24_1536_0)) := by
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 xs3).2.1 = [⟨Rect.unit (s := S24x2816) ![0, 0] ![24, 2816] inb_S24x2816_S24x2816_0_0, daV x1 x2 (arg16.view.readCov (hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0))) (Rect.unit (s := S2048x24) ![0, 0] ![512, 24] inb_S2048x24_S512x24_0_0).toLoadRect) (arg16.view.readCov (hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0))) (Rect.unit (s := S2048x24) ![512, 0] ![512, 24] inb_S2048x24_S512x24_512_0).toLoadRect) (arg16.view.readCov (hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0))) (Rect.unit (s := S2048x24) ![1024, 0] ![512, 24] inb_S2048x24_S512x24_1024_0).toLoadRect) (arg16.view.readCov (hL i x0 x6 x7 x8 (View.ld xs2 (Rect.unit (s := S2048x24) ![0, 0] ![512, 24] inb_S2048x24_S512x24_0_0)) (View.ld xs2 (Rect.unit (s := S2048x24) ![512, 0] ![512, 24] inb_S2048x24_S512x24_512_0)) (View.ld xs2 (Rect.unit (s := S2048x24) ![1024, 0] ![512, 24] inb_S2048x24_S512x24_1024_0)) (View.ld xs2 (Rect.unit (s := S2048x24) ![1536, 0] ![512, 24] inb_S2048x24_S512x24_1536_0))) (Rect.unit (s := S2048x24) ![1536, 0] ![512, 24] inb_S2048x24_S512x24_1536_0).toLoadRect)⟩] := by
    unfold kernelRun0_C
    dsimp only
    sl_unfold_words
    simp only [View.readAt_eq_ld, Memref.IsWhole.read_unread, shapeCast_self, View.ld_unit_zero (S := S24x256) hz2, View.ld_unit_zero (S := S22x256) hz2,
      View.ld_unit_zero (S := S1x256) hz2, View.ld_unit_zero (S := S24x2816) hz2, View.ld_unit_zero (S := S2048x24) hz2]
    rfl
  rw [e, View.read_writes_eq_canon _ _ _ (View.cover_of_tiledL _ ![24, 2816] (by sl_kernel_rfl))]
  rw [View.canon_unit_zero (S := S24x2816) hz2 inb_S24x2816_S24x2816_0_0]
  simp only [View.readCov_eq_canon', h_canon' B xs2]

end Cert.KernelIdeal.Value

end
-- ==== Proof.Value.Triple.lean ====
/-
  One run of the kernel's body, with the values: from buffers that hold the grid point's blocks, and scratch that holds
  what the earlier points left, to the buffers and the scratch at what the point leaves.
-/
module

public import proofs.«01_k».proof.Proof.Value.CaseA
public import proofs.«01_k».proof.Proof.Value.CaseB
public import proofs.«01_k».proof.Proof.Value.CaseC
public import proofs.«01_k».proof.Proof.KernelIdealBody.Any
public import Idealize.ShloMosaic.Lib.Pipeline.FrameBody

@[expose] public section

set_option maxRecDepth 16384
noncomputable section

namespace Cert.KernelIdeal.Value
open Cert.KernelIdeal Cert.KernelIdeal.Gen Cert.KernelIdeal.Body Cert.Value
open Idealize.ShloMosaic Idealize.ShloMosaic.TcCoe Idealize.ShloMosaic.WordCmp Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer held at given cells is owned at what those cells read. -/
theorem owns_read (c : Dev nD) {S : Shape} {e : EltTy} (a : Memref sig .tc .vmem S e) (f : a.view.ty.Contents (Elt Ideal)) (X : S.Idx → Elt Ideal e)
    (h : a.view.read (Elt Ideal) f = X) :
    iprop(a.view.loc (c : Thread nD τ) ↦[a.view.set]{fullShare} f) ⊢ (owns (c : Thread nD τ) a fullShare X : sProp 𝕄) := by
  unfold owns
  iintro H
  iexists f
  isplitr
  · ipureintro; exact h
  iexact H

variable {I : In} (c : Dev nD) (i : grid0.Coords) (arg1 : Memref sig .tc .vmem S2048x256 .bf16) (harg1 : arg1.IsWhole) (arg2 : Memref sig .tc .vmem S2048x2816 .fp8e4m3) (harg2 : arg2.IsWhole) (arg3 : Memref sig .tc .vmem S2048x1 .f32) (harg3 : arg3.IsWhole) (arg4 : Memref sig .tc .vmem S128x2816 .i8) (harg4 : arg4.IsWhole) (arg5 : Memref sig .tc .vmem S22x256 .bf16) (harg5 : arg5.IsWhole) (arg6 : Memref sig .tc .vmem S24x2816 .bf16) (harg6 : arg6.IsWhole) (arg7 : Memref sig .tc .vmem S24x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S2048x2816 .bf16) (harg10 : arg10.IsWhole) (arg11 : Memref sig .tc .vmem S24x2816 .bf16) (harg11 : arg11.IsWhole) (arg12 : Memref sig .tc .vmem S24x256 .bf16) (harg12 : arg12.IsWhole) (arg13 : Memref sig .tc .vmem S1x256 .f32) (harg13 : arg13.IsWhole) (arg14 : Memref sig .tc .vmem S2048x2816 .f32) (harg14 : arg14.IsWhole) (arg15 : Memref sig .tc .vmem S256x2816 .bf16) (harg15 : arg15.IsWhole) (arg16 : Memref sig .tc .vmem S2048x24 .f32) (harg16 : arg16.IsWhole) (arg17 : Memref sig .tc .vmem S2048x24 .bf16) (harg17 : arg17.IsWhole) (arg18 : Memref sig .tc .vmem S2048x256 .bf16) (harg18 : arg18.IsWhole)
  (x0 : Vec Ideal S2048x256 .bf16) (x1 : Vec Ideal S2048x2816 .fp8e4m3) (x2 : Vec Ideal S2048x1 .f32) (x3 : Vec Ideal S128x2816 .i8) (x4 : Vec Ideal S22x256 .bf16)
  (x5 : Vec Ideal S24x2816 .bf16) (x6 : Vec Ideal S24x256 .bf16) (x7 x8 : Vec Ideal S1x256 .f32)
  (B : Blk I (i 0).val x0 x1 x2 x3 x4 x5 x6 x7 x8)

include B in
set_option maxHeartbeats 1600000 in
/-- The first grid point: the accumulators start from zero. -/
theorem valA (hc0 : cond0_0 i) (hc1 : ¬cond0_1 i) (d10 : Vec Ideal S2048x2816 .bf16) (d11 : Vec Ideal S24x2816 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d10 ∗ owns (c : Thread nD τ) arg11 fullShare d11 ∗ owns (c : Thread nD τ) arg12 fullShare (dbV (XG I) (DG I (i 0).val)) ∗ owns (c : Thread nD τ) arg13 fullShare (dmV i x0 x1 x2 x8 (VG I (i 0).val)) ∗ owns (c : Thread nD τ) arg14 fullShare (AG I (i 0).val (fun _ => (0 : EReal))) ∗ (∃ d, owns (c : Thread nD τ) arg15 fullShare d) ∗ owns (c : Thread nD τ) arg16 fullShare (HG I (i 0).val (fun _ => (0 : EReal))) ∗ owns (c : Thread nD τ) arg17 fullShare (XG I) ∗ (∃ d, owns (c : Thread nD τ) arg18 fullShare d)) -∗ K ⟨⟩))
      ⊢ wp frame (wpE (defs₀ (F := Ideal)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H5, H6, H7, H8, H9, H10, H11, ⟨%d12, H12⟩, ⟨%d13, H13⟩, ⟨%d14, H14⟩, ⟨%d15, H15⟩, ⟨%d16, H16⟩, ⟨%d17, H17⟩, ⟨%d18, H18⟩, Hk⟩
  iapply (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8).2.2.2.2.2.2.2.2.2 d10 d11 E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iintro ⟨H1, H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_read c arg12 _ _ (runA_db B _)); iexact H12
  isplitl [H13]; · iapply (owns_read c arg13 _ _ (runA_dm B _)); iexact H13
  isplitl [H14]; · iapply (owns_read c arg14 _ _ (runA_acc B _)); iexact H14
  isplitl [H15]; · iapply (owns_some c arg15 _); iexact H15
  isplitl [H16]; · iapply (owns_read c arg16 _ _ (runA_h B _)); iexact H16
  isplitl [H17]; · iapply (owns_read c arg17 _ _ (runA_xa B _)); iexact H17
  iapply (owns_some c arg18 _); iexact H18

include B in
set_option maxHeartbeats 1600000 in
/-- A middle grid point: the accumulators take one more block; the two whole results' buffers stay as they are. -/
theorem valB (hc0 : ¬cond0_0 i) (hc1 : ¬cond0_1 i) (d10 : Vec Ideal S2048x2816 .bf16) (d11 : Vec Ideal S24x2816 .bf16) (xs0 : Vec Ideal S2048x2816 .f32) (xs2 : Vec Ideal S2048x24 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare (XG I) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare d10 ∗ owns (c : Thread nD τ) arg11 fullShare d11 ∗ owns (c : Thread nD τ) arg12 fullShare (dbV (XG I) (DG I (i 0).val)) ∗ owns (c : Thread nD τ) arg13 fullShare (dmV i x0 x1 x2 x8 (VG I (i 0).val)) ∗ owns (c : Thread nD τ) arg14 fullShare (AG I (i 0).val xs0) ∗ (∃ d, owns (c : Thread nD τ) arg15 fullShare d) ∗ owns (c : Thread nD τ) arg16 fullShare (HG I (i 0).val xs2) ∗ owns (c : Thread nD τ) arg17 fullShare (XG I) ∗ (∃ d, owns (c : Thread nD τ) arg18 fullShare d)) -∗ K ⟨⟩))
      ⊢ wp frame (wpE (defs₀ (F := Ideal)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H5, H6, H7, H8, H9, H10, H11, ⟨%d12, H12⟩, ⟨%d13, H13⟩, H14, ⟨%d15, H15⟩, H16, H17, ⟨%d18, H18⟩, Hk⟩
  iapply (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 (XG I)).2.2.2.2.2.2.2.2.2 d10 d11 E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexists _; iexact H15
  isplitl [H16]; · iexact H16
  isplitl [H17]; · iexact H17
  isplitl [H18]; · iexists _; iexact H18
  iintro ⟨H1, H2, H3, H4, H5, H6, H7, H8, H9, H10, H11, ⟨%f12, H12⟩, ⟨%f13, H13⟩, ⟨%f14, H14⟩, ⟨%f15, H15⟩, ⟨%f16, H16⟩, H17, ⟨%f18, H18⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_read c arg12 _ _ (runB_db B rfl _)); iexact H12
  isplitl [H13]; · iapply (owns_read c arg13 _ _ (runB_dm B _)); iexact H13
  isplitl [H14]; · iapply (owns_read c arg14 _ _ (runB_acc B _)); iexact H14
  isplitl [H15]; · iapply (owns_some c arg15 _); iexact H15
  isplitl [H16]; · iapply (owns_read c arg16 _ _ (runB_h B _)); iexact H16
  isplitl [H17]; · iexact H17
  iapply (owns_some c arg18 _); iexact H18

include B in
set_option maxHeartbeats 1600000 in
/-- The last grid point: the accumulators take the last block and the two whole results are stored. -/
theorem valC (hc0 : ¬cond0_0 i) (hc1 : cond0_1 i) (xs0 : Vec Ideal S2048x2816 .f32) (xs2 : Vec Ideal S2048x24 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d) ∗ owns (c : Thread nD τ) arg16 fullShare xs2 ∗ owns (c : Thread nD τ) arg17 fullShare (XG I) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (AG I (i 0).val xs0) ∗ owns (c : Thread nD τ) arg11 fullShare (daV x1 x2 (View.ld (HG I (i 0).val xs2) (Rect.unit (s := S2048x24) ![0, 0] ![512, 24] inb_S2048x24_S512x24_0_0)) (View.ld (HG I (i 0).val xs2) (Rect.unit (s := S2048x24) ![512, 0] ![512, 24] inb_S2048x24_S512x24_512_0)) (View.ld (HG I (i 0).val xs2) (Rect.unit (s := S2048x24) ![1024, 0] ![512, 24] inb_S2048x24_S512x24_1024_0)) (View.ld (HG I (i 0).val xs2) (Rect.unit (s := S2048x24) ![1536, 0] ![512, 24] inb_S2048x24_S512x24_1536_0))) ∗ owns (c : Thread nD τ) arg12 fullShare (dbV (XG I) (DG I (i 0).val)) ∗ owns (c : Thread nD τ) arg13 fullShare (dmV i x0 x1 x2 x8 (VG I (i 0).val)) ∗ owns (c : Thread nD τ) arg14 fullShare (AG I (i 0).val xs0) ∗ (∃ d, owns (c : Thread nD τ) arg15 fullShare d) ∗ owns (c : Thread nD τ) arg16 fullShare (HG I (i 0).val xs2) ∗ owns (c : Thread nD τ) arg17 fullShare (XG I) ∗ (∃ d, owns (c : Thread nD τ) arg18 fullShare d)) -∗ K ⟨⟩))
      ⊢ wp frame (wpE (defs₀ (F := Ideal)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H5, H6, H7, H8, H9, ⟨%d10, H10⟩, ⟨%d11, H11⟩, ⟨%d12, H12⟩, ⟨%d13, H13⟩, H14, ⟨%d15, H15⟩, H16, H17, ⟨%d18, H18⟩, Hk⟩
  iapply (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xs0 xs2 (XG I)).2.2.2.2.2.2.2.2.2 E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexact H14
  isplitl [H15]; · iexists _; iexact H15
  isplitl [H16]; · iexact H16
  isplitl [H17]; · iexact H17
  isplitl [H18]; · iexists _; iexact H18
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, H17, ⟨%f18, H18⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_read c arg10 _ _ (runC_dx B _)); iexact H10
  isplitl [H11]; · iapply (owns_read c arg11 _ _ (runC_da B _)); iexact H11
  isplitl [H12]; · iapply (owns_read c arg12 _ _ (runC_db B rfl _)); iexact H12
  isplitl [H13]; · iapply (owns_read c arg13 _ _ (runC_dm B _)); iexact H13
  isplitl [H14]; · iapply (owns_read c arg14 _ _ (runC_acc B _)); iexact H14
  isplitl [H15]; · iapply (owns_some c arg15 _); iexact H15
  isplitl [H16]; · iapply (owns_read c arg16 _ _ (runC_h B _)); iexact H16
  isplitl [H17]; · iexact H17
  iapply (owns_some c arg18 _); iexact H18

end Cert.KernelIdeal.Value

end
-- ==== Proof.Value.Inputs.lean ====
/-
  What the region's arrays hold, and each input window's block, in terms of the arguments.
-/
module

public import proofs.«01_k».proof.Proof.Value.ReadBack
public import Idealize.ShloMosaic.Lib.StableHlo.ReadAt

@[expose] public section

set_option maxRecDepth 16384
noncomputable section

namespace Cert.KernelIdeal.Value
open Cert.KernelIdeal Cert.KernelIdeal.Gen Cert.Value
open Idealize.ShloMosaic Idealize.ShloMosaic.TcCoe Idealize.ShloMosaic.WordCmp Idealize.ShloMosaic.Tactic
open Idealize.ShloMosaic.Pipeline (Dat Cfg Window)

variable (m : (ℓ : Loc nD τ sig) → Buf (Elt Ideal) ℓ)

/-- The arguments of the launch. -/
def ins (c : Dev nD) : In :=
  In.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))

/-- Array 0 of the region: the output gradient's two batches one after the other. -/
theorem V_v0 (c : Dev nD) (i : Fin 2048) (o : Fin 5760) : Gen.V m c main_v0 (ix2 i o) = (ins m c).dy i o := by
  unfold Gen.V V0 ins In.of
  after_reads_at
/-- Array 1 of the region: the activations' two batches one after the other. -/
theorem V_v1 (c : Dev nD) (i : Fin 2048) (o : Fin 2816) : Gen.V m c main_v1 (ix2 i o) = (ins m c).x i o := by
  unfold Gen.V V0 ins In.of
  after_reads_at
/-- Array 2 of the region: the activations' scales as a column. -/
theorem V_v2 (c : Dev nD) (i : Fin 2048) : Gen.V m c main_v2 (ix2 i (0 : Fin 1)) = (ins m c).xs i := by
  unfold Gen.V V0 ins In.of
  after_reads_at
/-- Array 3 of the region: the packed weight transposed. -/
theorem V_v3 (c : Dev nD) (p : Fin 2880) (k : Fin 2816) : Gen.V m c main_v3 (ix2 p k) = (ins m c).w k p := by
  unfold Gen.V V0 ins In.of
  after_reads_at
/-- Array 4 of the region: the first low-rank factor transposed. -/
theorem V_v4 (c : Dev nD) (r : Fin 24) (k : Fin 2816) : Gen.V m c main_v4 (ix2 r k) = (ins m c).a k r := by
  unfold Gen.V V0 ins In.of
  after_reads_at
/-- Array 5 of the region: the magnitudes as a row. -/
theorem V_v5 (c : Dev nD) (o : Fin 5760) : Gen.V m c main_v5 (ix2 (0 : Fin 1) o) = (ins m c).mag o := by
  unfold Gen.V V0 ins In.of
  after_reads_at
/-- Array 6 of the region: the columns' norms as a row. -/
theorem V_v6 (c : Dev nD) (o : Fin 5760) : Gen.V m c main_v6 (ix2 (0 : Fin 1) o) = (ins m c).cn o := by
  unfold Gen.V V0 ins In.of
  after_reads_at

/-- The point's coordinate is its number. -/
theorem pt (t : Fin cfg0.N) : (grid0.coords t 0).val = t.val := by
  have ht : t.val < 23 := Nat.lt_of_lt_of_eq t.isLt N_0
  have e0 : (grid0.coords t 0).val = t.val / 1 % 23 := Pipeline.Grid.coords_val t 0 (by decide) rfl
  omega

/-- Window 0's buffer after its fetch, at a place inside the array. -/
theorem blk0 (c : Dev nD) (t : Fin cfg0.N) (d) (p : Fin 2048) (q : Fin 256) (h : 256 * t.val + q.val < 5760) :
    (cfg0.win 0).fill (grid0.coords t) d (iblk m c 0 t) (ix2 p q) = Gen.V m c main_v0 (ix2 p (⟨256 * t.val + q.val, h⟩ : Fin 5760)) := by
  have hx0 : ∀ t : Fin cfg0.N, (cfg0.win 0).xsize (grid0.coords t) 0 = 2048 := by decide +kernel
  have hx1 : ∀ t : Fin cfg0.N, (cfg0.win 0).xsize (grid0.coords t) 1 = min 256 (5760 - 256 * t.val) := by decide +kernel
  have hi0 : ∀ t : Fin cfg0.N, (cfg0.win 0).index t 0 = 0 := by decide +kernel
  have hi1 : ∀ t : Fin cfg0.N, (cfg0.win 0).index t 1 = t.val := by decide +kernel
  have hm : (cfg0.win 0).moved (grid0.coords t) (ix2 p q) = true := by
    rw [Window.moved_iff]
    intro a
    match a with
    | 0 => rw [hx0]; exact p.2
    | 1 => rw [hx1]; show q.val < _; have := q.2; omega
  unfold Window.fill
  rw [dif_pos hm]
  unfold iblk
  have e : ∀ j, ((cfg0.win 0).blk t).view.read (Elt Ideal) (Gen.V m c (Pipeline.arrRef spec0 0)) j = Gen.V m c main_v0 (((cfg0.win 0).rect t).emb j) := fun j => rfl
  refine (e _).trans ?_
  have k : ∀ (j : ((cfg0.win 0).xblock (grid0.coords t)).Idx) (a : Fin 2), (((cfg0.win 0).rect t).emb j a).val = (cfg0.win 0).index t a * (cfg0.win 0).size a + (j a).val := fun j a =>
    ValueKit.rect_emb_unit_val _ _ _ _ _
  refine congrArg _ (funext fun a => Fin.ext ((k _ a).trans ?_))
  match a with
  | 0 => show (cfg0.win 0).index t 0 * 2048 + p.val = p.val; rw [hi0]; omega
  | 1 => show (cfg0.win 0).index t 1 * 256 + q.val = 256 * t.val + q.val; rw [hi1]; omega

/-- Window 3's buffer after its fetch, at a place inside the array. -/
theorem blk3 (c : Dev nD) (t : Fin cfg0.N) (d) (p : Fin 128) (q : Fin 2816) (h : 128 * t.val + p.val < 2880) :
    (cfg0.win 3).fill (grid0.coords t) d (iblk m c 3 t) (ix2 p q) = Gen.V m c main_v3 (ix2 (⟨128 * t.val + p.val, h⟩ : Fin 2880) q) := by
  have hx0 : ∀ t : Fin cfg0.N, (cfg0.win 3).xsize (grid0.coords t) 0 = min 128 (2880 - 128 * t.val) := by decide +kernel
  have hx1 : ∀ t : Fin cfg0.N, (cfg0.win 3).xsize (grid0.coords t) 1 = 2816 := by decide +kernel
  have hi0 : ∀ t : Fin cfg0.N, (cfg0.win 3).index t 0 = t.val := by decide +kernel
  have hi1 : ∀ t : Fin cfg0.N, (cfg0.win 3).index t 1 = 0 := by decide +kernel
  have hm : (cfg0.win 3).moved (grid0.coords t) (ix2 p q) = true := by
    rw [Window.moved_iff]
    intro a
    match a with
    | 0 => rw [hx0]; show p.val < _; have := p.2; omega
    | 1 => rw [hx1]; exact q.2
  unfold Window.fill
  rw [dif_pos hm]
  unfold iblk
  have e : ∀ j, ((cfg0.win 3).blk t).view.read (Elt Ideal) (Gen.V m c (Pipeline.arrRef spec0 3)) j = Gen.V m c main_v3 (((cfg0.win 3).rect t).emb j) := fun j => rfl
  refine (e _).trans ?_
  have k : ∀ (j : ((cfg0.win 3).xblock (grid0.coords t)).Idx) (a : Fin 2), (((cfg0.win 3).rect t).emb j a).val = (cfg0.win 3).index t a * (cfg0.win 3).size a + (j a).val := fun j a =>
    ValueKit.rect_emb_unit_val _ _ _ _ _
  refine congrArg _ (funext fun a => Fin.ext ((k _ a).trans ?_))
  match a with
  | 0 => show (cfg0.win 3).index t 0 * 128 + p.val = 128 * t.val + p.val; rw [hi0]; omega
  | 1 => show (cfg0.win 3).index t 1 * 2816 + q.val = q.val; rw [hi1]; omega

/-- Window 4's buffer after its fetch, at a place inside the array. -/
theorem blk4 (c : Dev nD) (t : Fin cfg0.N) (d) (p : Fin 22) (q : Fin 256) (h : 256 * t.val + q.val < 5760) :
    (cfg0.win 4).fill (grid0.coords t) d (iblk m c 4 t) (ix2 p q) = Gen.V m c main_arg4 (ix2 p (⟨256 * t.val + q.val, h⟩ : Fin 5760)) := by
  have hx0 : ∀ t : Fin cfg0.N, (cfg0.win 4).xsize (grid0.coords t) 0 = 22 := by decide +kernel
  have hx1 : ∀ t : Fin cfg0.N, (cfg0.win 4).xsize (grid0.coords t) 1 = min 256 (5760 - 256 * t.val) := by decide +kernel
  have hi0 : ∀ t : Fin cfg0.N, (cfg0.win 4).index t 0 = 0 := by decide +kernel
  have hi1 : ∀ t : Fin cfg0.N, (cfg0.win 4).index t 1 = t.val := by decide +kernel
  have hm : (cfg0.win 4).moved (grid0.coords t) (ix2 p q) = true := by
    rw [Window.moved_iff]
    intro a
    match a with
    | 0 => rw [hx0]; exact p.2
    | 1 => rw [hx1]; show q.val < _; have := q.2; omega
  unfold Window.fill
  rw [dif_pos hm]
  unfold iblk
  have e : ∀ j, ((cfg0.win 4).blk t).view.read (Elt Ideal) (Gen.V m c (Pipeline.arrRef spec0 4)) j = Gen.V m c main_arg4 (((cfg0.win 4).rect t).emb j) := fun j => rfl
  refine (e _).trans ?_
  have k : ∀ (j : ((cfg0.win 4).xblock (grid0.coords t)).Idx) (a : Fin 2), (((cfg0.win 4).rect t).emb j a).val = (cfg0.win 4).index t a * (cfg0.win 4).size a + (j a).val := fun j a =>
    ValueKit.rect_emb_unit_val _ _ _ _ _
  refine congrArg _ (funext fun a => Fin.ext ((k _ a).trans ?_))
  match a with
  | 0 => show (cfg0.win 4).index t 0 * 22 + p.val = p.val; rw [hi0]; omega
  | 1 => show (cfg0.win 4).index t 1 * 256 + q.val = 256 * t.val + q.val; rw [hi1]; omega

/-- Window 6's buffer after its fetch, at a place inside the array. -/
theorem blk6 (c : Dev nD) (t : Fin cfg0.N) (d) (p : Fin 24) (q : Fin 256) (h : 256 * t.val + q.val < 5760) :
    (cfg0.win 6).fill (grid0.coords t) d (iblk m c 6 t) (ix2 p q) = Gen.V m c main_arg6 (ix2 p (⟨256 * t.val + q.val, h⟩ : Fin 5760)) := by
  have hx0 : ∀ t : Fin cfg0.N, (cfg0.win 6).xsize (grid0.coords t) 0 = 24 := by decide +kernel
  have hx1 : ∀ t : Fin cfg0.N, (cfg0.win 6).xsize (grid0.coords t) 1 = min 256 (5760 - 256 * t.val) := by decide +kernel
  have hi0 : ∀ t : Fin cfg0.N, (cfg0.win 6).index t 0 = 0 := by decide +kernel
  have hi1 : ∀ t : Fin cfg0.N, (cfg0.win 6).index t 1 = t.val := by decide +kernel
  have hm : (cfg0.win 6).moved (grid0.coords t) (ix2 p q) = true := by
    rw [Window.moved_iff]
    intro a
    match a with
    | 0 => rw [hx0]; exact p.2
    | 1 => rw [hx1]; show q.val < _; have := q.2; omega
  unfold Window.fill
  rw [dif_pos hm]
  unfold iblk
  have e : ∀ j, ((cfg0.win 6).blk t).view.read (Elt Ideal) (Gen.V m c (Pipeline.arrRef spec0 6)) j = Gen.V m c main_arg6 (((cfg0.win 6).rect t).emb j) := fun j => rfl
  refine (e _).trans ?_
  have k : ∀ (j : ((cfg0.win 6).xblock (grid0.coords t)).Idx) (a : Fin 2), (((cfg0.win 6).rect t).emb j a).val = (cfg0.win 6).index t a * (cfg0.win 6).size a + (j a).val := fun j a =>
    ValueKit.rect_emb_unit_val _ _ _ _ _
  refine congrArg _ (funext fun a => Fin.ext ((k _ a).trans ?_))
  match a with
  | 0 => show (cfg0.win 6).index t 0 * 24 + p.val = p.val; rw [hi0]; omega
  | 1 => show (cfg0.win 6).index t 1 * 256 + q.val = 256 * t.val + q.val; rw [hi1]; omega

/-- Window 7's buffer after its fetch, at a place inside the array. -/
theorem blk7 (c : Dev nD) (t : Fin cfg0.N) (d) (p : Fin 1) (q : Fin 256) (h : 256 * t.val + q.val < 5760) :
    (cfg0.win 7).fill (grid0.coords t) d (iblk m c 7 t) (ix2 p q) = Gen.V m c main_v5 (ix2 p (⟨256 * t.val + q.val, h⟩ : Fin 5760)) := by
  have hx0 : ∀ t : Fin cfg0.N, (cfg0.win 7).xsize (grid0.coords t) 0 = 1 := by decide +kernel
  have hx1 : ∀ t : Fin cfg0.N, (cfg0.win 7).xsize (grid0.coords t) 1 = min 256 (5760 - 256 * t.val) := by decide +kernel
  have hi0 : ∀ t : Fin cfg0.N, (cfg0.win 7).index t 0 = 0 := by decide +kernel
  have hi1 : ∀ t : Fin cfg0.N, (cfg0.win 7).index t 1 = t.val := by decide +kernel
  have hm : (cfg0.win 7).moved (grid0.coords t) (ix2 p q) = true := by
    rw [Window.moved_iff]
    intro a
    match a with
    | 0 => rw [hx0]; exact p.2
    | 1 => rw [hx1]; show q.val < _; have := q.2; omega
  unfold Window.fill
  rw [dif_pos hm]
  unfold iblk
  have e : ∀ j, ((cfg0.win 7).blk t).view.read (Elt Ideal) (Gen.V m c (Pipeline.arrRef spec0 7)) j = Gen.V m c main_v5 (((cfg0.win 7).rect t).emb j) := fun j => rfl
  refine (e _).trans ?_
  have k : ∀ (j : ((cfg0.win 7).xblock (grid0.coords t)).Idx) (a : Fin 2), (((cfg0.win 7).rect t).emb j a).val = (cfg0.win 7).index t a * (cfg0.win 7).size a + (j a).val := fun j a =>
    ValueKit.rect_emb_unit_val _ _ _ _ _
  refine congrArg _ (funext fun a => Fin.ext ((k _ a).trans ?_))
  match a with
  | 0 => show (cfg0.win 7).index t 0 * 1 + p.val = p.val; rw [hi0]; omega
  | 1 => show (cfg0.win 7).index t 1 * 256 + q.val = 256 * t.val + q.val; rw [hi1]; omega

/-- Window 8's buffer after its fetch, at a place inside the array. -/
theorem blk8 (c : Dev nD) (t : Fin cfg0.N) (d) (p : Fin 1) (q : Fin 256) (h : 256 * t.val + q.val < 5760) :
    (cfg0.win 8).fill (grid0.coords t) d (iblk m c 8 t) (ix2 p q) = Gen.V m c main_v6 (ix2 p (⟨256 * t.val + q.val, h⟩ : Fin 5760)) := by
  have hx0 : ∀ t : Fin cfg0.N, (cfg0.win 8).xsize (grid0.coords t) 0 = 1 := by decide +kernel
  have hx1 : ∀ t : Fin cfg0.N, (cfg0.win 8).xsize (grid0.coords t) 1 = min 256 (5760 - 256 * t.val) := by decide +kernel
  have hi0 : ∀ t : Fin cfg0.N, (cfg0.win 8).index t 0 = 0 := by decide +kernel
  have hi1 : ∀ t : Fin cfg0.N, (cfg0.win 8).index t 1 = t.val := by decide +kernel
  have hm : (cfg0.win 8).moved (grid0.coords t) (ix2 p q) = true := by
    rw [Window.moved_iff]
    intro a
    match a with
    | 0 => rw [hx0]; exact p.2
    | 1 => rw [hx1]; show q.val < _; have := q.2; omega
  unfold Window.fill
  rw [dif_pos hm]
  unfold iblk
  have e : ∀ j, ((cfg0.win 8).blk t).view.read (Elt Ideal) (Gen.V m c (Pipeline.arrRef spec0 8)) j = Gen.V m c main_v6 (((cfg0.win 8).rect t).emb j) := fun j => rfl
  refine (e _).trans ?_
  have k : ∀ (j : ((cfg0.win 8).xblock (grid0.coords t)).Idx) (a : Fin 2), (((cfg0.win 8).rect t).emb j a).val = (cfg0.win 8).index t a * (cfg0.win 8).size a + (j a).val := fun j a =>
    ValueKit.rect_emb_unit_val _ _ _ _ _
  refine congrArg _ (funext fun a => Fin.ext ((k _ a).trans ?_))
  match a with
  | 0 => show (cfg0.win 8).index t 0 * 1 + p.val = p.val; rw [hi0]; omega
  | 1 => show (cfg0.win 8).index t 1 * 256 + q.val = 256 * t.val + q.val; rw [hi1]; omega

/-- Window 1's block is the whole array. -/
theorem blk1 (c : Dev nD) (t : Fin cfg0.N) (p : Fin 2048) (q : Fin 2816) : (iblk m c 1 t : (⟨2, ![2048, 2816]⟩ : Shape).Idx → _) (ix2 p q) = Gen.V m c main_v1 (ix2 p q) := by
  have hi0 : ∀ t : Fin cfg0.N, (cfg0.win 1).index t 0 = 0 := by decide +kernel
  have hi1 : ∀ t : Fin cfg0.N, (cfg0.win 1).index t 1 = 0 := by decide +kernel
  unfold iblk
  have e : ∀ j, ((cfg0.win 1).blk t).view.read (Elt Ideal) (Gen.V m c (Pipeline.arrRef spec0 1)) j = Gen.V m c main_v1 (((cfg0.win 1).rect t).emb j) := fun j => rfl
  refine (e _).trans ?_
  have k : ∀ (j : ((cfg0.win 1).xblock (grid0.coords t)).Idx) (a : Fin 2), (((cfg0.win 1).rect t).emb j a).val = (cfg0.win 1).index t a * (cfg0.win 1).size a + (j a).val := fun j a =>
    ValueKit.rect_emb_unit_val _ _ _ _ _
  refine congrArg _ (funext fun a => Fin.ext ((k _ a).trans ?_))
  match a with
  | 0 => show (cfg0.win 1).index t 0 * 2048 + p.val = p.val; rw [hi0]; omega
  | 1 => show (cfg0.win 1).index t 1 * 2816 + q.val = q.val; rw [hi1]; omega

/-- Window 2's block is the whole array. -/
theorem blk2 (c : Dev nD) (t : Fin cfg0.N) (p : Fin 2048) (q : Fin 1) : (iblk m c 2 t : (⟨2, ![2048, 1]⟩ : Shape).Idx → _) (ix2 p q) = Gen.V m c main_v2 (ix2 p q) := by
  have hi0 : ∀ t : Fin cfg0.N, (cfg0.win 2).index t 0 = 0 := by decide +kernel
  have hi1 : ∀ t : Fin cfg0.N, (cfg0.win 2).index t 1 = 0 := by decide +kernel
  unfold iblk
  have e : ∀ j, ((cfg0.win 2).blk t).view.read (Elt Ideal) (Gen.V m c (Pipeline.arrRef spec0 2)) j = Gen.V m c main_v2 (((cfg0.win 2).rect t).emb j) := fun j => rfl
  refine (e _).trans ?_
  have k : ∀ (j : ((cfg0.win 2).xblock (grid0.coords t)).Idx) (a : Fin 2), (((cfg0.win 2).rect t).emb j a).val = (cfg0.win 2).index t a * (cfg0.win 2).size a + (j a).val := fun j a =>
    ValueKit.rect_emb_unit_val _ _ _ _ _
  refine congrArg _ (funext fun a => Fin.ext ((k _ a).trans ?_))
  match a with
  | 0 => show (cfg0.win 2).index t 0 * 2048 + p.val = p.val; rw [hi0]; omega
  | 1 => show (cfg0.win 2).index t 1 * 1 + q.val = q.val; rw [hi1]; omega

/-- Window 5's block is the whole array. -/
theorem blk5 (c : Dev nD) (t : Fin cfg0.N) (p : Fin 24) (q : Fin 2816) : (iblk m c 5 t : (⟨2, ![24, 2816]⟩ : Shape).Idx → _) (ix2 p q) = Gen.V m c main_v4 (ix2 p q) := by
  have hi0 : ∀ t : Fin cfg0.N, (cfg0.win 5).index t 0 = 0 := by decide +kernel
  have hi1 : ∀ t : Fin cfg0.N, (cfg0.win 5).index t 1 = 0 := by decide +kernel
  unfold iblk
  have e : ∀ j, ((cfg0.win 5).blk t).view.read (Elt Ideal) (Gen.V m c (Pipeline.arrRef spec0 5)) j = Gen.V m c main_v4 (((cfg0.win 5).rect t).emb j) := fun j => rfl
  refine (e _).trans ?_
  have k : ∀ (j : ((cfg0.win 5).xblock (grid0.coords t)).Idx) (a : Fin 2), (((cfg0.win 5).rect t).emb j a).val = (cfg0.win 5).index t a * (cfg0.win 5).size a + (j a).val := fun j a =>
    ValueKit.rect_emb_unit_val _ _ _ _ _
  refine congrArg _ (funext fun a => Fin.ext ((k _ a).trans ?_))
  match a with
  | 0 => show (cfg0.win 5).index t 0 * 24 + p.val = p.val; rw [hi0]; omega
  | 1 => show (cfg0.win 5).index t 1 * 2816 + q.val = q.val; rw [hi1]; omega

/-- The nine buffers that the pipeline hands the body hold the grid point's blocks of the arguments. -/
theorem blk_ins (c : Dev nD) (t : Fin cfg0.N) (d0 d3 d4 d6 d7 d8) :
    Blk (ins m c) (grid0.coords t 0).val ((cfg0.win 0).fill (grid0.coords t) d0 (iblk m c 0 t)) (iblk m c 1 t) (iblk m c 2 t)
      ((cfg0.win 3).fill (grid0.coords t) d3 (iblk m c 3 t)) ((cfg0.win 4).fill (grid0.coords t) d4 (iblk m c 4 t)) (iblk m c 5 t)
      ((cfg0.win 6).fill (grid0.coords t) d6 (iblk m c 6 t)) ((cfg0.win 7).fill (grid0.coords t) d7 (iblk m c 7 t))
      ((cfg0.win 8).fill (grid0.coords t) d8 (iblk m c 8 t)) := by
  rw [pt t]
  exact {
    h0 := fun r o h => (blk0 m c t d0 r o h).trans (V_v0 m c _ _)
    h1 := fun r k => (blk1 m c t r k).trans (V_v1 m c _ _)
    h2 := fun r => (blk2 m c t r 0).trans (V_v2 m c _)
    h3 := fun p k h => (blk3 m c t d3 p k h).trans (V_v3 m c _ _)
    h4 := fun k o h => (blk4 m c t d4 k o h).trans (congrFun (V_main_arg4 m c) _)
    h5 := fun r k => (blk5 m c t r k).trans (V_v4 m c _ _)
    h6 := fun r o h => (blk6 m c t d6 r o h).trans (congrFun (V_main_arg6 m c) _)
    h7 := fun o h => (blk7 m c t d7 0 o h).trans (V_v5 m c _)
    h8 := fun o h => (blk8 m c t d8 0 o h).trans (V_v6 m c _) }

end Cert.KernelIdeal.Value

end
-- ==== Proof.Value.Run.lean ====
/-
  The run of the kernel with its values: the region's invariant holds the two accumulators at the partial sums of the
  columns walked so far, and the four result arrays end at the gradients.
-/
module

public import proofs.«01_k».proof.Proof.Value.Triple
public import proofs.«01_k».proof.Proof.Value.Inputs
public import proofs.«01_k».proof.Proof.KernelIdealBody.Frame

@[expose] public section

set_option maxRecDepth 16384

noncomputable section

namespace Cert.KernelIdeal.Value

open Cert.KernelIdeal Cert.KernelIdeal.Gen Cert.Value
open Cert.KernelIdeal.Body (PhiA0_eq scM0_0 scM0_1 scM0_2 scM0_3 scM0_4 cond0_0 cond0_1 hcond0_0 hcond0_1 ms0_0 ms0_1 ms0_2 ms0_3 ms0_4 ms0_5 ms0_6 ms0_7 ms0_8 ms0_9 ms0_10 ms0_11 ms0_12 liveAt0_0 liveAt0_1 liveAt0_2 liveAt0_3 liveAt0_4 liveAt0_5 liveAt0_6 liveAt0_7 liveAt0_8 liveAt0_11 liveAt0_12 idleAt0_9_A idleAt0_9_B noFlush0_9_A noFlush0_9_B liveAt0_9_C idleAt0_10_A idleAt0_10_B noFlush0_10_A noFlush0_10_B liveAt0_10_C)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The accumulator of the activations' gradient after `n` points. -/
def accS (I : In) (n : ℕ) : Vec Ideal S2048x2816 .f32 := fun y => part (fun o => D I (y 0) o * V I o (y 1)) n
/-- The accumulator of the gradient through the second factor after `n` points. -/
def hS (I : In) (n : ℕ) : Vec Ideal S2048x24 .f32 := fun y => part (fun o => D I (y 0) o * I.b (y 1) o) n

theorem AG_step (I : In) (n : ℕ) : AG I n (accS I n) = accS I (n + 1) := funext fun y => (part_succ _ n).symm
theorem HG_step (I : In) (n : ℕ) : HG I n (hS I n) = hS I (n + 1) := funext fun y => (part_succ _ n).symm
theorem accS_zero (I : In) : accS I 0 = fun _ => (0 : EReal) := funext fun y => part_zero _
theorem hS_zero (I : In) : hS I 0 = fun _ => (0 : EReal) := funext fun y => part_zero _

/-- The activations' gradient as an array. -/
def dxW (I : In) : Vec Ideal S2048x2816 .bf16 := accS I 23
/-- The first factor's gradient, transposed, as an array. -/
def daW (I : In) : Vec Ideal S24x2816 .bf16 := fun y => DA I (y 0) (y 1)
/-- A block of the magnitudes' gradient, zero past the last column. -/
def dmB (I : In) (t : ℕ) : Vec Ideal S1x256 .f32 := fun y => msk (DM I) (256 * t + (y 1).val)

theorem daV_whole {I : In} {i : grid0.Coords} {x0 x1 x2 x3 x4 x5 x6 x7 x8} (B : Blk I (i 0).val x0 x1 x2 x3 x4 x5 x6 x7 x8) :
    daV x1 x2 (View.ld (hS I 23) (Rect.unit (s := S2048x24) ![0, 0] ![512, 24] inb_S2048x24_S512x24_0_0)) (View.ld (hS I 23) (Rect.unit (s := S2048x24) ![512, 0] ![512, 24] inb_S2048x24_S512x24_512_0)) (View.ld (hS I 23) (Rect.unit (s := S2048x24) ![1024, 0] ![512, 24] inb_S2048x24_S512x24_1024_0)) (View.ld (hS I 23) (Rect.unit (s := S2048x24) ![1536, 0] ![512, 24] inb_S2048x24_S512x24_1536_0))
      = daW I := by
  funext y
  obtain ⟨r, c, rfl⟩ : ∃ r c, y = ix2 r c := ⟨y 0, y 1, eq_ix2 y⟩
  refine (da_eq B (hS I 23) _ _ _ _ rfl rfl rfl rfl r c).trans ?_
  show _ = DA I r c
  unfold DA H
  refine congrArg (half * ·) (Finset.sum_congr rfl fun t _ => ?_)
  exact congrArg (· * _) (part_all _)

/-- The region's invariant before point `n`: every scratch at anything before the first; then the accumulators at the
    partial sums and the low-rank activations at their values. -/
def PhiS (c : Dev nD) : (n : ℕ) → n ≤ cfg0.N → sProp 𝕄
  | 0, _ => Pipeline.ΦA spec0 c
  | n + 1, hn => iprop(iprop(owns (c : Thread nD τ) scM0_0 fullShare (accS (ins m c) (n + 1)) ∗ (∃ d, owns (c : Thread nD τ) scM0_1 fullShare d) ∗ owns (c : Thread nD τ) scM0_2 fullShare (hS (ins m c) (n + 1)) ∗ owns (c : Thread nD τ) scM0_3 fullShare (XG (ins m c)) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (accS (ins m c) n) ∗ (∃ d, owns (c : Thread nD τ) scM0_1 fullShare d) ∗ owns (c : Thread nD τ) scM0_2 fullShare (hS (ins m c) n) ∗ owns (c : Thread nD τ) scM0_3 fullShare (XG (ins m c)) ∗ (∃ d, owns (c : Thread nD τ) scM0_4 fullShare d)) ∗ (∃ r, prngReg c r)) := by
  cases n with
  | zero => exact absurd rfl hz
  | succ n => rfl

/-- The proof data: the arrays as the region finds them; after the body each input's buffer at its block, the whole
    results at theirs and the two blocked results at their blocks. -/
def dats (_ : Fin 1) (c : Dev nD) : Dat τ (Elt Ideal) Unit ℕ (UR sig nD τ) ℕ cfg0 c where
  A w := Gen.V m c (Pipeline.arrRef spec0 w)
  after w t := match w with
    | ⟨0, _⟩ => (cfg0.win 0).fill (grid0.coords t) (Dat.unnamed (cfg := cfg0) 0 t) (iblk m c 0 t)
    | ⟨1, _⟩ => iblk m c 1 t
    | ⟨2, _⟩ => iblk m c 2 t
    | ⟨3, _⟩ => (cfg0.win 3).fill (grid0.coords t) (Dat.unnamed (cfg := cfg0) 3 t) (iblk m c 3 t)
    | ⟨4, _⟩ => (cfg0.win 4).fill (grid0.coords t) (Dat.unnamed (cfg := cfg0) 4 t) (iblk m c 4 t)
    | ⟨5, _⟩ => iblk m c 5 t
    | ⟨6, _⟩ => (cfg0.win 6).fill (grid0.coords t) (Dat.unnamed (cfg := cfg0) 6 t) (iblk m c 6 t)
    | ⟨7, _⟩ => (cfg0.win 7).fill (grid0.coords t) (Dat.unnamed (cfg := cfg0) 7 t) (iblk m c 7 t)
    | ⟨8, _⟩ => (cfg0.win 8).fill (grid0.coords t) (Dat.unnamed (cfg := cfg0) 8 t) (iblk m c 8 t)
    | ⟨9, _⟩ => dxW (ins m c)
    | ⟨10, _⟩ => daW (ins m c)
    | ⟨11, _⟩ => dbV (XG (ins m c)) (DG (ins m c) t.val)
    | ⟨12, _⟩ => dmB (ins m c) t.val
  Φ t := PhiS m c t.val (Nat.le_of_lt_succ t.isLt)
  q _ := fullShare
  owed _ := 0

theorem A_eq (c : Dev nD) (w : Fin cfg0.W) : (dats m 0 c).A w = Gen.V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What each buffer holds before the body and is left at. -/

theorem before0_0 (c : Dev nD) (t : Fin cfg0.N) (d) :
    (dats m 0 c).before 0 t d = (cfg0.win 0).fill (grid0.coords t) d (iblk m c 0 t) := by
  unfold Dat.before; rw [if_pos (fetch0_0 t)]; rfl
theorem leaves0_0 (c : Dev nD) (t : Fin cfg0.N) :
    (dats m 0 c).leaves 0 t = iprop(∃ d, owns (c : Thread nD τ) (ms0_0 t) fullShare ((cfg0.win 0).fill (grid0.coords t) d (iblk m c 0 t))) := by
  unfold Dat.leaves; rw [liveAt0_0 t]
  show iprop(∃ d, owns (c : Thread nD τ) (ms0_0 t) fullShare ((cfg0.win 0).fill (grid0.coords t) d ((cfg0.win 0).cut (grid0.coords t) ((cfg0.win 0).fill (grid0.coords t) (Dat.unnamed (cfg := cfg0) 0 t) (iblk m c 0 t))))) = _
  simp only [Window.cut_fill]
theorem before0_1 (c : Dev nD) (t : Fin cfg0.N) (d) : (dats m 0 c).before 1 t d = iblk m c 1 t :=
  before0_1_of m (dats m 0 c) (A_eq m c 1) (fun _ => rfl) t d
theorem leaves0_1 (c : Dev nD) (t : Fin cfg0.N) :
    (dats m 0 c).leaves 1 t = owns (c : Thread nD τ) (ms0_1 t) fullShare (iblk m c 1 t) := by
  unfold Dat.leaves; rw [liveAt0_1 t]; rfl
theorem before0_2 (c : Dev nD) (t : Fin cfg0.N) (d) : (dats m 0 c).before 2 t d = iblk m c 2 t :=
  before0_2_of m (dats m 0 c) (A_eq m c 2) (fun _ => rfl) t d
theorem leaves0_2 (c : Dev nD) (t : Fin cfg0.N) :
    (dats m 0 c).leaves 2 t = owns (c : Thread nD τ) (ms0_2 t) fullShare (iblk m c 2 t) := by
  unfold Dat.leaves; rw [liveAt0_2 t]; rfl
theorem before0_3 (c : Dev nD) (t : Fin cfg0.N) (d) :
    (dats m 0 c).before 3 t d = (cfg0.win 3).fill (grid0.coords t) d (iblk m c 3 t) := by
  unfold Dat.before; rw [if_pos (fetch0_3 t)]; rfl
theorem leaves0_3 (c : Dev nD) (t : Fin cfg0.N) :
    (dats m 0 c).leaves 3 t = iprop(∃ d, owns (c : Thread nD τ) (ms0_3 t) fullShare ((cfg0.win 3).fill (grid0.coords t) d (iblk m c 3 t))) := by
  unfold Dat.leaves; rw [liveAt0_3 t]
  show iprop(∃ d, owns (c : Thread nD τ) (ms0_3 t) fullShare ((cfg0.win 3).fill (grid0.coords t) d ((cfg0.win 3).cut (grid0.coords t) ((cfg0.win 3).fill (grid0.coords t) (Dat.unnamed (cfg := cfg0) 3 t) (iblk m c 3 t))))) = _
  simp only [Window.cut_fill]
theorem before0_4 (c : Dev nD) (t : Fin cfg0.N) (d) :
    (dats m 0 c).before 4 t d = (cfg0.win 4).fill (grid0.coords t) d (iblk m c 4 t) := by
  unfold Dat.before; rw [if_pos (fetch0_4 t)]; rfl
theorem leaves0_4 (c : Dev nD) (t : Fin cfg0.N) :
    (dats m 0 c).leaves 4 t = iprop(∃ d, owns (c : Thread nD τ) (ms0_4 t) fullShare ((cfg0.win 4).fill (grid0.coords t) d (iblk m c 4 t))) := by
  unfold Dat.leaves; rw [liveAt0_4 t]
  show iprop(∃ d, owns (c : Thread nD τ) (ms0_4 t) fullShare ((cfg0.win 4).fill (grid0.coords t) d ((cfg0.win 4).cut (grid0.coords t) ((cfg0.win 4).fill (grid0.coords t) (Dat.unnamed (cfg := cfg0) 4 t) (iblk m c 4 t))))) = _
  simp only [Window.cut_fill]
theorem before0_5 (c : Dev nD) (t : Fin cfg0.N) (d) : (dats m 0 c).before 5 t d = iblk m c 5 t :=
  before0_5_of m (dats m 0 c) (A_eq m c 5) (fun _ => rfl) t d
theorem leaves0_5 (c : Dev nD) (t : Fin cfg0.N) :
    (dats m 0 c).leaves 5 t = owns (c : Thread nD τ) (ms0_5 t) fullShare (iblk m c 5 t) := by
  unfold Dat.leaves; rw [liveAt0_5 t]; rfl
theorem before0_6 (c : Dev nD) (t : Fin cfg0.N) (d) :
    (dats m 0 c).before 6 t d = (cfg0.win 6).fill (grid0.coords t) d (iblk m c 6 t) := by
  unfold Dat.before; rw [if_pos (fetch0_6 t)]; rfl
theorem leaves0_6 (c : Dev nD) (t : Fin cfg0.N) :
    (dats m 0 c).leaves 6 t = iprop(∃ d, owns (c : Thread nD τ) (ms0_6 t) fullShare ((cfg0.win 6).fill (grid0.coords t) d (iblk m c 6 t))) := by
  unfold Dat.leaves; rw [liveAt0_6 t]
  show iprop(∃ d, owns (c : Thread nD τ) (ms0_6 t) fullShare ((cfg0.win 6).fill (grid0.coords t) d ((cfg0.win 6).cut (grid0.coords t) ((cfg0.win 6).fill (grid0.coords t) (Dat.unnamed (cfg := cfg0) 6 t) (iblk m c 6 t))))) = _
  simp only [Window.cut_fill]
theorem before0_7 (c : Dev nD) (t : Fin cfg0.N) (d) :
    (dats m 0 c).before 7 t d = (cfg0.win 7).fill (grid0.coords t) d (iblk m c 7 t) := by
  unfold Dat.before; rw [if_pos (fetch0_7 t)]; rfl
theorem leaves0_7 (c : Dev nD) (t : Fin cfg0.N) :
    (dats m 0 c).leaves 7 t = iprop(∃ d, owns (c : Thread nD τ) (ms0_7 t) fullShare ((cfg0.win 7).fill (grid0.coords t) d (iblk m c 7 t))) := by
  unfold Dat.leaves; rw [liveAt0_7 t]
  show iprop(∃ d, owns (c : Thread nD τ) (ms0_7 t) fullShare ((cfg0.win 7).fill (grid0.coords t) d ((cfg0.win 7).cut (grid0.coords t) ((cfg0.win 7).fill (grid0.coords t) (Dat.unnamed (cfg := cfg0) 7 t) (iblk m c 7 t))))) = _
  simp only [Window.cut_fill]
theorem before0_8 (c : Dev nD) (t : Fin cfg0.N) (d) :
    (dats m 0 c).before 8 t d = (cfg0.win 8).fill (grid0.coords t) d (iblk m c 8 t) := by
  unfold Dat.before; rw [if_pos (fetch0_8 t)]; rfl
theorem leaves0_8 (c : Dev nD) (t : Fin cfg0.N) :
    (dats m 0 c).leaves 8 t = iprop(∃ d, owns (c : Thread nD τ) (ms0_8 t) fullShare ((cfg0.win 8).fill (grid0.coords t) d (iblk m c 8 t))) := by
  unfold Dat.leaves; rw [liveAt0_8 t]
  show iprop(∃ d, owns (c : Thread nD τ) (ms0_8 t) fullShare ((cfg0.win 8).fill (grid0.coords t) d ((cfg0.win 8).cut (grid0.coords t) ((cfg0.win 8).fill (grid0.coords t) (Dat.unnamed (cfg := cfg0) 8 t) (iblk m c 8 t))))) = _
  simp only [Window.cut_fill]
/-- What a middle or first point leaves in window 9's buffer: what it found there. -/
theorem leaves0_9_idle (c : Dev nD) (t : Fin cfg0.N) (h1 : ¬cond0_1 (grid0.coords t)) :
    (dats m 0 c).leaves 9 t = iprop(∃ d, owns (c : Thread nD τ) (ms0_9 t) fullShare ((dats m 0 c).before 9 t d)) := by
  by_cases h0 : cond0_0 (grid0.coords t)
  · exact Dat.leaves_idle (dats m 0 c) 9 t (idleAt0_9_A t h0 h1) (noFlush0_9_A t h0 h1)
  · exact Dat.leaves_idle (dats m 0 c) 9 t (idleAt0_9_B t h0 h1) (noFlush0_9_B t h0 h1)
/-- What the last point leaves in window 9's buffer. -/
theorem leaves0_9_last (c : Dev nD) (t : Fin cfg0.N) (h0 : ¬cond0_0 (grid0.coords t)) (h1 : cond0_1 (grid0.coords t)) :
    (dats m 0 c).leaves 9 t = owns (c : Thread nD τ) (ms0_9 t) fullShare (dxW (ins m c)) := by
  unfold Dat.leaves; rw [liveAt0_9_C t h0 h1]; rfl
/-- What a middle or first point leaves in window 10's buffer: what it found there. -/
theorem leaves0_10_idle (c : Dev nD) (t : Fin cfg0.N) (h1 : ¬cond0_1 (grid0.coords t)) :
    (dats m 0 c).leaves 10 t = iprop(∃ d, owns (c : Thread nD τ) (ms0_10 t) fullShare ((dats m 0 c).before 10 t d)) := by
  by_cases h0 : cond0_0 (grid0.coords t)
  · exact Dat.leaves_idle (dats m 0 c) 10 t (idleAt0_10_A t h0 h1) (noFlush0_10_A t h0 h1)
  · exact Dat.leaves_idle (dats m 0 c) 10 t (idleAt0_10_B t h0 h1) (noFlush0_10_B t h0 h1)
/-- What the last point leaves in window 10's buffer. -/
theorem leaves0_10_last (c : Dev nD) (t : Fin cfg0.N) (h0 : ¬cond0_0 (grid0.coords t)) (h1 : cond0_1 (grid0.coords t)) :
    (dats m 0 c).leaves 10 t = owns (c : Thread nD τ) (ms0_10 t) fullShare (daW (ins m c)) := by
  unfold Dat.leaves; rw [liveAt0_10_C t h0 h1]; rfl
/-- What a point leaves in the second factor's gradient's buffer. -/
theorem leaves0_11 (c : Dev nD) (t : Fin cfg0.N) :
    (dats m 0 c).leaves 11 t = iprop(∃ d, owns (c : Thread nD τ) (ms0_11 t) fullShare ((cfg0.win 11).fill (grid0.coords t) d ((cfg0.win 11).cut (grid0.coords t) (dbV (XG (ins m c)) (DG (ins m c) t.val))))) := by
  unfold Dat.leaves; rw [liveAt0_11 t]; rfl
/-- What a point leaves in the magnitudes' gradient's buffer. -/
theorem leaves0_12 (c : Dev nD) (t : Fin cfg0.N) :
    (dats m 0 c).leaves 12 t = iprop(∃ d, owns (c : Thread nD τ) (ms0_12 t) fullShare ((cfg0.win 12).fill (grid0.coords t) d ((cfg0.win 12).cut (grid0.coords t) (dmB (ins m c) t.val)))) := by
  unfold Dat.leaves; rw [liveAt0_12 t]; rfl

/-- The second factor's gradient's buffer, filled over itself. -/
theorem fill11 (c : Dev nD) (t : Fin cfg0.N) :
    (cfg0.win 11).fill (grid0.coords t) (dbV (XG (ins m c)) (DG (ins m c) (grid0.coords t 0).val)) ((cfg0.win 11).cut (grid0.coords t) (dbV (XG (ins m c)) (DG (ins m c) t.val)))
      = dbV (XG (ins m c)) (DG (ins m c) (grid0.coords t 0).val) := by
  rw [pt t]; exact (cfg0.win 11).fill_cut _ _

/-- The magnitudes' gradient's buffer as the point leaves it agrees with the block on the part written back. -/
theorem fill12 (c : Dev nD) (t : Fin cfg0.N) {x0 x1 x2 x3 x4 x5 x6 x7 x8} (B : Blk (ins m c) (grid0.coords t 0).val x0 x1 x2 x3 x4 x5 x6 x7 x8) :
    (cfg0.win 12).fill (grid0.coords t) (dmV (grid0.coords t) x0 x1 x2 x8 (VG (ins m c) (grid0.coords t 0).val)) ((cfg0.win 12).cut (grid0.coords t) (dmB (ins m c) t.val))
      = dmV (grid0.coords t) x0 x1 x2 x8 (VG (ins m c) (grid0.coords t 0).val) := by
  refine (cfg0.win 12).fill_congr_cut _ (funext fun j => ?_)
  show dmV (grid0.coords t) x0 x1 x2 x8 (VG (ins m c) (grid0.coords t 0).val) ((cfg0.win 12).xinj (grid0.coords t) j) = dmB (ins m c) t.val ((cfg0.win 12).xinj (grid0.coords t) j)
  have hx1 : ∀ t : Fin cfg0.N, (cfg0.win 12).xsize (grid0.coords t) 1 = min 256 (5760 - 256 * t.val) := by decide +kernel
  have hj : (j 1).val < min 256 (5760 - 256 * t.val) := lt_of_lt_of_eq (j 1).isLt (hx1 t)
  have h : 256 * t.val + (j 1).val < 5760 := by omega
  have hj2 : (j 1).val < 256 := by omega
  have e : (cfg0.win 12).xinj (grid0.coords t) j = ix2 (0 : Fin 1) (⟨(j 1).val, hj2⟩ : Fin 256) := by
    refine (eq_ix2 (n0 := 1) (n1 := 256) _).trans ?_
    exact congrArg (fun z => ix2 z _) (Subsingleton.elim _ _)
  rw [e]
  refine (dm_eq B _ (by rw [pt t]; exact h)).trans ?_
  show DM (ins m c) _ = msk (DM (ins m c)) (256 * t.val + (j 1).val)
  rw [msk_lt _ h]
  congr 2
  show 256 * (grid0.coords t 0).val + _ = _
  rw [pt t]

set_option maxHeartbeats 4000000 in
/-- The body at any point, from the buffers as the pipeline hands them over to the buffers as it takes them back. -/
theorem sound_body (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))
    ⊢ wp frame (wpE (defs₀ (F := Ideal)) Variants.none c none) Set.univ (bodyAt0 t) (fun _ =>
    iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)) := by
  have hN : t.val < 23 := lt_of_lt_of_eq t.isLt (show cfg0.N = 23 from N_0)
  have hp : (grid0.coords t 0).val = t.val := pt t
  rw [show (dats m 0 c).owesAt () t.succ = (dats m 0 c).owesAt () t.castSucc from rfl,
    show (dats m 0 c).Φ t.succ = PhiS m c (t.val + 1) t.isLt from rfl, PhiS_pos m c (t.val + 1) _ (Nat.succ_ne_zero _), PhiS_castSucc m c t]
  simp only [before0_0, leaves0_0, before0_1, leaves0_1, before0_2, leaves0_2, before0_3, leaves0_3, before0_4, leaves0_4, before0_5, leaves0_5, before0_6, leaves0_6, before0_7, leaves0_7, before0_8, leaves0_8, leaves0_11, leaves0_12]
  rw [← AG_step, ← HG_step]
  by_cases h0 : t.val % 23 = 0
  · have h1 : ¬t.val % 23 = 22 := by omega
    rw [leaves0_9_idle m c t (fun h => h1 ((hcond0_1 t).mp h)), leaves0_10_idle m c t (fun h => h1 ((hcond0_1 t).mp h))]
    rw [PhiS_zero m c _ _ (by omega), PhiA0_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have B := blk_ins m c t d0 d3 d4 d6 d7 d8
    iapply (valA c (grid0.coords t) _ _ _ _ _ _ _ _ _ _ _ _ _ _ _ _ _ _ _ _ _ _ _ _ _ _ _ _ _ _ _ _ _ _ _ _ _ _ _ _ _ _ _ _ _ B ((hcond0_0 t).mpr h0) (fun h => h1 ((hcond0_1 t).mp h)) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, HS0, HS1, HS2, HS3, HS4⟩
    isplitl [HS0 HS1 HS2 HS3 HS4 Hg]
    · isplitl [HS0 HS1 HS2 HS3 HS4]
      · isplitl [HS0]; · rw [show AG (ins m c) t.val (accS (ins m c) t.val) = AG (ins m c) (grid0.coords t 0).val (fun _ => (0 : EReal)) from by rw [hp, show t.val = 0 by omega, accS_zero]]; iexact HS0
        isplitl [HS1]; · iexact HS1
        isplitl [HS2]; · rw [show HG (ins m c) t.val (hS (ins m c) t.val) = HG (ins m c) (grid0.coords t 0).val (fun _ => (0 : EReal)) from by rw [hp, show t.val = 0 by omega, hS_zero]]; iexact HS2
        isplitl [HS3]; · iexact HS3
        iexact HS4
      iexact Hg
    isplitl [Ho]; · iexact Ho
    isplitl [H0]; · iexists _; iexact H0
    isplitl [H1]; · iexact H1
    isplitl [H2]; · iexact H2
    isplitl [H3]; · iexists _; iexact H3
    isplitl [H4]; · iexists _; iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]
    · iexists (dbV (XG (ins m c)) (DG (ins m c) (grid0.coords t 0).val)); rw [fill11]; iexact H11
    iexists (dmV (grid0.coords t) ((cfg0.win 0).fill (grid0.coords t) d0 (iblk m c 0 t)) (iblk m c 1 t) (iblk m c 2 t) ((cfg0.win 8).fill (grid0.coords t) d8 (iblk m c 8 t)) (VG (ins m c) (grid0.coords t 0).val)); rw [fill12 m c t B]; iexact H12
  · by_cases h1 : t.val % 23 = 22
    · rw [leaves0_9_last m c t (fun h => h0 ((hcond0_0 t).mp h)) ((hcond0_1 t).mpr h1), leaves0_10_last m c t (fun h => h0 ((hcond0_0 t).mp h)) ((hcond0_1 t).mpr h1)]
      rw [PhiS_pos m c _ _ (by omega)]
      have h22 : t.val = 22 := by omega
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      have B := blk_ins m c t d0 d3 d4 d6 d7 d8
      iapply (valC c (grid0.coords t) _ _ _ _ _ _ _ _ _ _ _ _ _ _ _ _ _ _ _ _ _ _ _ _ _ _ _ _ _ _ _ _ _ _ _ _ _ _ _ _ _ _ _ _ _ B (fun h => h0 ((hcond0_0 t).mp h)) ((hcond0_1 t).mpr h1) (accS (ins m c) t.val) (hS (ins m c) t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, HS0, HS1, HS2, HS3, HS4⟩
      isplitl [HS0 HS1 HS2 HS3 HS4 Hg]
      · isplitl [HS0 HS1 HS2 HS3 HS4]
        · isplitl [HS0]; · rw [show AG (ins m c) t.val = AG (ins m c) (grid0.coords t 0).val from by rw [hp]]; iexact HS0
          isplitl [HS1]; · iexact HS1
          isplitl [HS2]; · rw [show HG (ins m c) t.val = HG (ins m c) (grid0.coords t 0).val from by rw [hp]]; iexact HS2
          isplitl [HS3]; · iexact HS3
          iexact HS4
        iexact Hg
      isplitl [Ho]; · iexact Ho
      isplitl [H0]; · iexists _; iexact H0
      isplitl [H1]; · iexact H1
      isplitl [H2]; · iexact H2
      isplitl [H3]; · iexists _; iexact H3
      isplitl [H4]; · iexists _; iexact H4
      isplitl [H5]; · iexact H5
      isplitl [H6]; · iexists _; iexact H6
      isplitl [H7]; · iexists _; iexact H7
      isplitl [H8]; · iexists _; iexact H8
      isplitl [H9]
      · rw [show dxW (ins m c) = AG (ins m c) (grid0.coords t 0).val (accS (ins m c) t.val) from by rw [hp, AG_step, h22]; rfl]; iexact H9
      isplitl [H10]
      · rw [← daV_whole B, show hS (ins m c) 23 = HG (ins m c) (grid0.coords t 0).val (hS (ins m c) t.val) from by rw [hp, HG_step, h22]]; iexact H10
      isplitl [H11]
      · iexists (dbV (XG (ins m c)) (DG (ins m c) (grid0.coords t 0).val)); rw [fill11]; iexact H11
      iexists (dmV (grid0.coords t) ((cfg0.win 0).fill (grid0.coords t) d0 (iblk m c 0 t)) (iblk m c 1 t) (iblk m c 2 t) ((cfg0.win 8).fill (grid0.coords t) d8 (iblk m c 8 t)) (VG (ins m c) (grid0.coords t 0).val)); rw [fill12 m c t B]; iexact H12
    · rw [leaves0_9_idle m c t (fun h => h1 ((hcond0_1 t).mp h)), leaves0_10_idle m c t (fun h => h1 ((hcond0_1 t).mp h))]
      rw [PhiS_pos m c _ _ (by omega)]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      have B := blk_ins m c t d0 d3 d4 d6 d7 d8
      iapply (valB c (grid0.coords t) _ _ _ _ _ _ _ _ _ _ _ _ _ _ _ _ _ _ _ _ _ _ _ _ _ _ _ _ _ _ _ _ _ _ _ _ _ _ _ _ _ _ _ _ _ B (fun h => h0 ((hcond0_0 t).mp h)) (fun h => h1 ((hcond0_1 t).mp h)) _ _ (accS (ins m c) t.val) (hS (ins m c) t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, HS0, HS1, HS2, HS3, HS4⟩
      isplitl [HS0 HS1 HS2 HS3 HS4 Hg]
      · isplitl [HS0 HS1 HS2 HS3 HS4]
        · isplitl [HS0]; · rw [show AG (ins m c) t.val = AG (ins m c) (grid0.coords t 0).val from by rw [hp]]; iexact HS0
          isplitl [HS1]; · iexact HS1
          isplitl [HS2]; · rw [show HG (ins m c) t.val = HG (ins m c) (grid0.coords t 0).val from by rw [hp]]; iexact HS2
          isplitl [HS3]; · iexact HS3
          iexact HS4
        iexact Hg
      isplitl [Ho]; · iexact Ho
      isplitl [H0]; · iexists _; iexact H0
      isplitl [H1]; · iexact H1
      isplitl [H2]; · iexact H2
      isplitl [H3]; · iexists _; iexact H3
      isplitl [H4]; · iexists _; iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]
      · iexists (dbV (XG (ins m c)) (DG (ins m c) (grid0.coords t 0).val)); rw [fill11]; iexact H11
      iexists (dmV (grid0.coords t) ((cfg0.win 0).fill (grid0.coords t) d0 (iblk m c 0 t)) (iblk m c 1 t) (iblk m c 2 t) ((cfg0.win 8).fill (grid0.coords t) d8 (iblk m c 8 t)) (VG (ins m c) (grid0.coords t 0).val)); rw [fill12 m c t B]; iexact H12

/-- The library's body obligation. -/
theorem body_obligation (c : Dev nD) :
    Pipeline.BodyObligationLoose (dats m 0 c) (defs₀ (F := Ideal)) Variants.none () Set.univ := fun t => by
  rw [bigSep_W0, bigSep_W0, Body.defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives every scratch back at some contents. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiS_pos m c _ _ (by rw [show cfg0.N = 23 from N_0]; decide), PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexact HS4
  iexact Hg

set_option backward.isDefEq.respectTransparency.types false in
set_option maxHeartbeats 800000 in
/-- The run: every array of the region at what the proof data says, and the rest as the lines after it leave it. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Value

end
-- ==== Proof.Value.Arrays.lean ====
/-
  The kernel's result arrays after its run, and the results that the host's lines after the region make of them.
-/
module

public import proofs.«01_k».proof.Proof.Value.Run

@[expose] public section

set_option maxRecDepth 16384

noncomputable section

namespace Cert.KernelIdeal.Value

open Cert.KernelIdeal Cert.KernelIdeal.Gen Cert.Value
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The activations' gradient as an array. -/
def dxA (I : In) : (⟨2, ![2048, 2816]⟩ : Shape).Idx → EReal := fun j => DX I (j 0) (j 1)

/-- The first factor's gradient, transposed, as an array. -/
def daA (I : In) : (⟨2, ![24, 2816]⟩ : Shape).Idx → EReal := fun j => DA I (j 0) (j 1)

/-- The second factor's gradient as an array. -/
def dbA (I : In) : (⟨2, ![24, 5760]⟩ : Shape).Idx → EReal := fun j => DB I (j 0) (j 1)

/-- The magnitudes' gradient as an array. -/
def dmA (I : In) : (⟨2, ![1, 5760]⟩ : Shape).Idx → EReal := fun j => DM I (j 1)

/-- What the region writes back of window 9 at a point is that block of the array. -/
theorem flushed_dx (c : Dev nD) (t : Fin cfg0.N) :
    (dats m 0 c).flushed 9 t = ((cfg0.win 9).blk t).view.read (Elt Ideal) (dxA (ins m c)) := by
  funext j
  have hi0 : ∀ t : Fin cfg0.N, (cfg0.win 9).index t 0 = 0 := by decide +kernel
  have hi1 : ∀ t : Fin cfg0.N, (cfg0.win 9).index t 1 = 0 := by decide +kernel
  have hx1 : ∀ t : Fin cfg0.N, (cfg0.win 9).xsize (grid0.coords t) 1 = 2816 := by decide +kernel
  have hj1 : (j 1).val < 2816 := lt_of_lt_of_eq (j 1).isLt (hx1 t)
  have k : ∀ (j : ((cfg0.win 9).xblock (grid0.coords t)).Idx) (a : Fin 2), (((cfg0.win 9).rect t).emb j a).val = (cfg0.win 9).index t a * (cfg0.win 9).size a + (j a).val := fun j a =>
    ValueKit.rect_emb_unit_val _ _ _ _ _
  have k0 : (((cfg0.win 9).rect t).emb j 0).val = (j 0).val := (k j 0).trans (by rw [hi0]; omega)
  have k1 : (((cfg0.win 9).rect t).emb j 1).val = (j 1).val := (k j 1).trans (by rw [hi1]; show 0 * 2816 + _ = _; omega)
  have s : ∀ y, dxW (ins m c) y = dxA (ins m c) y := fun y => part_all _
  show dxW (ins m c) ((cfg0.win 9).xinj (grid0.coords t) j) = dxA (ins m c) (((cfg0.win 9).rect t).emb j)
  refine (s _).trans (congrArg (dxA (ins m c)) (funext fun a => Fin.ext ?_))
  match a with
  | 0 => exact k0.symm
  | 1 => exact k1.symm

/-- The activations' gradient is what the region's array ends holding. -/
theorem final_dx (c : Dev nD) : (dats m 0 c).arrAt 9 cfg0.N = dxA (ins m c) :=
  have hcov : (cfg0.win 9).Covers := by decide +kernel
  (dats m 0 c).arrAt_eq_of_cover 9 (dxA (ins m c)) (fun t _ => flushed_dx m c t)
    (hcov.cover _ (Memref.isWhole_whole _))

/-- What the region writes back of window 10 at a point is that block of the array. -/
theorem flushed_da (c : Dev nD) (t : Fin cfg0.N) :
    (dats m 0 c).flushed 10 t = ((cfg0.win 10).blk t).view.read (Elt Ideal) (daA (ins m c)) := by
  funext j
  have hi0 : ∀ t : Fin cfg0.N, (cfg0.win 10).index t 0 = 0 := by decide +kernel
  have hi1 : ∀ t : Fin cfg0.N, (cfg0.win 10).index t 1 = 0 := by decide +kernel
  have hx1 : ∀ t : Fin cfg0.N, (cfg0.win 10).xsize (grid0.coords t) 1 = 2816 := by decide +kernel
  have hj1 : (j 1).val < 2816 := lt_of_lt_of_eq (j 1).isLt (hx1 t)
  have k : ∀ (j : ((cfg0.win 10).xblock (grid0.coords t)).Idx) (a : Fin 2), (((cfg0.win 10).rect t).emb j a).val = (cfg0.win 10).index t a * (cfg0.win 10).size a + (j a).val := fun j a =>
    ValueKit.rect_emb_unit_val _ _ _ _ _
  have k0 : (((cfg0.win 10).rect t).emb j 0).val = (j 0).val := (k j 0).trans (by rw [hi0]; omega)
  have k1 : (((cfg0.win 10).rect t).emb j 1).val = (j 1).val := (k j 1).trans (by rw [hi1]; show 0 * 2816 + _ = _; omega)
  have s : ∀ y, daW (ins m c) y = daA (ins m c) y := fun y => rfl
  show daW (ins m c) ((cfg0.win 10).xinj (grid0.coords t) j) = daA (ins m c) (((cfg0.win 10).rect t).emb j)
  refine (s _).trans (congrArg (daA (ins m c)) (funext fun a => Fin.ext ?_))
  match a with
  | 0 => exact k0.symm
  | 1 => exact k1.symm

/-- The first factor's gradient, transposed, is what the region's array ends holding. -/
theorem final_da (c : Dev nD) : (dats m 0 c).arrAt 10 cfg0.N = daA (ins m c) :=
  have hcov : (cfg0.win 10).Covers := by decide +kernel
  (dats m 0 c).arrAt_eq_of_cover 10 (daA (ins m c)) (fun t _ => flushed_da m c t)
    (hcov.cover _ (Memref.isWhole_whole _))

/-- What the region writes back of window 11 at a point is that block of the array. -/
theorem flushed_db (c : Dev nD) (t : Fin cfg0.N) :
    (dats m 0 c).flushed 11 t = ((cfg0.win 11).blk t).view.read (Elt Ideal) (dbA (ins m c)) := by
  funext j
  have hi0 : ∀ t : Fin cfg0.N, (cfg0.win 11).index t 0 = 0 := by decide +kernel
  have hi1 : ∀ t : Fin cfg0.N, (cfg0.win 11).index t 1 = t.val := by decide +kernel
  have hx1 : ∀ t : Fin cfg0.N, (cfg0.win 11).xsize (grid0.coords t) 1 = min 256 (5760 - 256 * t.val) := by decide +kernel
  have hj1 : (j 1).val < min 256 (5760 - 256 * t.val) := lt_of_lt_of_eq (j 1).isLt (hx1 t)
  have k : ∀ (j : ((cfg0.win 11).xblock (grid0.coords t)).Idx) (a : Fin 2), (((cfg0.win 11).rect t).emb j a).val = (cfg0.win 11).index t a * (cfg0.win 11).size a + (j a).val := fun j a =>
    ValueKit.rect_emb_unit_val _ _ _ _ _
  have k0 : (((cfg0.win 11).rect t).emb j 0).val = (j 0).val := (k j 0).trans (by rw [hi0]; omega)
  have k1 : (((cfg0.win 11).rect t).emb j 1).val = 256 * t.val + (j 1).val := (k j 1).trans (by rw [hi1]; show t.val * 256 + _ = _; omega)
  have h : 256 * t.val + (j 1).val < 5760 := by omega
  show dbV (XG (ins m c)) (DG (ins m c) t.val) ((cfg0.win 11).xinj (grid0.coords t) j) = dbA (ins m c) (((cfg0.win 11).rect t).emb j)
  have e : (cfg0.win 11).xinj (grid0.coords t) j = ix2 ((cfg0.win 11).xinj (grid0.coords t) j 0 : Fin 24) ((cfg0.win 11).xinj (grid0.coords t) j 1 : Fin 256) := eq_ix2 (n0 := 24) (n1 := 256) _
  rw [e, ← pt t]
  refine (db_eq _ _ (by rw [pt t]; exact h)).trans ?_
  show DB (ins m c) _ _ = DB (ins m c) _ _
  congr 1
  · exact Fin.ext k0.symm
  · refine Fin.ext ((?_ : _ = 256 * t.val + (j 1).val).trans k1.symm)
    show 256 * (grid0.coords t 0).val + (j 1).val = _
    rw [pt t]

/-- The second factor's gradient is what the region's array ends holding. -/
theorem final_db (c : Dev nD) : (dats m 0 c).arrAt 11 cfg0.N = dbA (ins m c) :=
  have hcov : (cfg0.win 11).Covers := by decide +kernel
  (dats m 0 c).arrAt_eq_of_cover 11 (dbA (ins m c)) (fun t _ => flushed_db m c t)
    (hcov.cover _ (Memref.isWhole_whole _))

/-- What the region writes back of window 12 at a point is that block of the array. -/
theorem flushed_dm (c : Dev nD) (t : Fin cfg0.N) :
    (dats m 0 c).flushed 12 t = ((cfg0.win 12).blk t).view.read (Elt Ideal) (dmA (ins m c)) := by
  funext j
  have hi0 : ∀ t : Fin cfg0.N, (cfg0.win 12).index t 0 = 0 := by decide +kernel
  have hi1 : ∀ t : Fin cfg0.N, (cfg0.win 12).index t 1 = t.val := by decide +kernel
  have hx1 : ∀ t : Fin cfg0.N, (cfg0.win 12).xsize (grid0.coords t) 1 = min 256 (5760 - 256 * t.val) := by decide +kernel
  have hj1 : (j 1).val < min 256 (5760 - 256 * t.val) := lt_of_lt_of_eq (j 1).isLt (hx1 t)
  have k : ∀ (j : ((cfg0.win 12).xblock (grid0.coords t)).Idx) (a : Fin 2), (((cfg0.win 12).rect t).emb j a).val = (cfg0.win 12).index t a * (cfg0.win 12).size a + (j a).val := fun j a =>
    ValueKit.rect_emb_unit_val _ _ _ _ _
  have k0 : (((cfg0.win 12).rect t).emb j 0).val = (j 0).val := (k j 0).trans (by rw [hi0]; omega)
  have k1 : (((cfg0.win 12).rect t).emb j 1).val = 256 * t.val + (j 1).val := (k j 1).trans (by rw [hi1]; show t.val * 256 + _ = _; omega)
  have h : 256 * t.val + (j 1).val < 5760 := by omega
  show msk (DM (ins m c)) (256 * t.val + (j 1).val) = DM (ins m c) (((cfg0.win 12).rect t).emb j 1)
  rw [msk_lt _ h]
  exact congrArg _ (Fin.ext k1.symm)

/-- The magnitudes' gradient is what the region's array ends holding. -/
theorem final_dm (c : Dev nD) : (dats m 0 c).arrAt 12 cfg0.N = dmA (ins m c) :=
  have hcov : (cfg0.win 12).Covers := by decide +kernel
  (dats m 0 c).arrAt_eq_of_cover 12 (dmA (ins m c)) (fun t _ => flushed_dm m c t)
    (hcov.cover _ (Memref.isWhole_whole _))

end Cert.KernelIdeal.Value

end
-- ==== Proof.Value.Results.lean ====
/-
  The kernel's four results after its run, as functions of the arguments.
-/
module

public import proofs.«01_k».proof.Proof.Value.Arrays
public import Idealize.ShloMosaic.Lib.StableHlo.ReadAt

@[expose] public section

set_option maxRecDepth 16384

noncomputable section

namespace Cert.KernelIdeal.Value

open Cert.KernelIdeal Cert.KernelIdeal.Gen Cert.Value
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The contents of the arrays after the region. -/
abbrev exitV (c : Dev nD) : Valuation τ sig (Elt Ideal) :=
  Pipeline.withArrays spec0 c (V0 m c) fun w => (dats m 0 c).arrAt w cfg0.N

theorem exit_dx (c : Dev nD) : exitV m c (Proc.devRef .tc main_v7_0) = dxA (ins m c) :=
  (Pipeline.withArrays_arr spec0 launch0.win.arr_inj c (V0 m c) _ 9).trans (final_dx m c)
theorem exit_da (c : Dev nD) : exitV m c (Proc.devRef .tc main_v7_1) = daA (ins m c) :=
  (Pipeline.withArrays_arr spec0 launch0.win.arr_inj c (V0 m c) _ 10).trans (final_da m c)
theorem exit_dm (c : Dev nD) : exitV m c (Proc.devRef .tc main_v7_3) = dmA (ins m c) :=
  (Pipeline.withArrays_arr spec0 launch0.win.arr_inj c (V0 m c) _ 12).trans (final_dm m c)

/-- The first result: the activations' gradient, in two batches. -/
theorem tail_v8 (c : Dev nD) (b : Fin 2) (t : Fin 1024) (k : Fin 2816) :
    Pipeline.afterTail₀ cfgs (dats m) 0 (V0 m) [hostOps1] c main_v8 (ix3 b t k)
      = DX (ins m c) ⟨b.val * 1024 + t.val, by have := b.2; have := t.2; omega⟩ k := by
  show StableHlo.after (hostOps1 ++ []) (exitV m c) (Proc.devRef .tc main_v8) (ix3 b t k) = _
  rw [List.append_nil]
  have h : ∀ (Z : Valuation τ sig (Elt Ideal)), StableHlo.after hostOps1 Z (Proc.devRef .tc main_v8) (ix3 b t k)
      = Z (Proc.devRef .tc main_v7_0) (ix2 (⟨b.val * 1024 + t.val, by have := b.2; have := t.2; omega⟩ : Fin 2048) k) := by
    intro Z
    after_reads_at
  rw [h, exit_dx]
  rfl

/-- The second result: the first factor's gradient. -/
theorem tail_v9 (c : Dev nD) (k : Fin 2816) (r : Fin 24) :
    Pipeline.afterTail₀ cfgs (dats m) 0 (V0 m) [hostOps1] c main_v9 (ix2 k r) = DA (ins m c) r k := by
  show StableHlo.after (hostOps1 ++ []) (exitV m c) (Proc.devRef .tc main_v9) (ix2 k r) = _
  rw [List.append_nil]
  have h : ∀ (Z : Valuation τ sig (Elt Ideal)), StableHlo.after hostOps1 Z (Proc.devRef .tc main_v9) (ix2 k r)
      = Z (Proc.devRef .tc main_v7_1) (ix2 r k) := by
    intro Z
    after_reads_at
  rw [h, exit_da]
  rfl

/-- The fourth result: the magnitudes' gradient. -/
theorem tail_v10 (c : Dev nD) (o : Fin 5760) :
    Pipeline.afterTail₀ cfgs (dats m) 0 (V0 m) [hostOps1] c main_v10 (ix1 o) = DM (ins m c) o := by
  show StableHlo.after (hostOps1 ++ []) (exitV m c) (Proc.devRef .tc main_v10) (ix1 o) = _
  rw [List.append_nil]
  have h : ∀ (Z : Valuation τ sig (Elt Ideal)), StableHlo.after hostOps1 Z (Proc.devRef .tc main_v10) (ix1 o)
      = Z (Proc.devRef .tc main_v7_3) (ix2 (0 : Fin 1) o) := by
    intro Z
    after_reads_at
  rw [h, exit_dm]
  rfl

/-- The run of the kernel: its results are the gradients of the arguments, its arguments end as launched, and its
    counters at zero. -/
theorem run : θ_run defs (onTc (τ := τ) (main (F := Ideal))) (s₀ m ρ) (fun r => ∀ c : Dev nD,
      (∀ b t k, r.2.mem ((c : Thread nD τ).loc main_v8) (ix3 b t k) = DX (ins m c) ⟨b.val * 1024 + t.val, by have := b.2; have := t.2; omega⟩ k)
      ∧ (∀ k q, r.2.mem ((c : Thread nD τ).loc main_v9) (ix2 k q) = DA (ins m c) q k)
      ∧ (∀ q o, r.2.mem ((c : Thread nD τ).loc main_v7_2) (ix2 q o) = DB (ins m c) q o)
      ∧ (∀ o, r.2.mem ((c : Thread nD τ).loc main_v10) (ix1 o) = DM (ins m c) o)) :=
  (θ_run defs _ _).mono (fun _ h c => ⟨
      fun b t k => (congrFun ((h.1 c).2 main_v8 (Pipeline.mem_restRefs_of main_v8 (by decide) (by decide))) _).trans (tail_v8 m c b t k),
      fun k q => (congrFun ((h.1 c).2 main_v9 (Pipeline.mem_restRefs_of main_v9 (by decide) (by decide))) _).trans (tail_v9 m c k q),
      fun q o => (congrFun (((h.1 c).1 11).trans (final_db m c)) _),
      fun o => (congrFun ((h.1 c).2 main_v10 (Pipeline.mem_restRefs_of main_v10 (by decide) (by decide))) _).trans (tail_v10 m c o)⟩)
    (run_main_quiescent m ρ)

end Cert.KernelIdeal.Value

end
-- ==== Proof.Value.RefRead.lean ====
/-
  What the reference's host lines compute, read at an index over the buffers before them.
-/
module

public import proofs.«01_k».proof.Proof.Value.Spec
public import proofs.«01_k».proof.Proof.Gen.ReferenceIdeal.Frame
public import Idealize.ShloMosaic.Lib.StableHlo.ReadAt

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic

variable (Z : Valuation τ sig (Elt Ideal))

/-- The arguments as the host lines find them: the activations from the region's widened copy. -/
def J : In := In.of (Z (Proc.devRef .tc main_arg0)) (Z (Proc.devRef .tc main_v0)) (Z (Proc.devRef .tc main_arg2)) (Z (Proc.devRef .tc main_arg3))
  (Z (Proc.devRef .tc main_arg4)) (Z (Proc.devRef .tc main_arg5)) (Z (Proc.devRef .tc main_arg6)) (Z (Proc.devRef .tc main_arg7)) (Z (Proc.devRef .tc main_arg8))

/-- A row is its group of 128 and its place there. -/
theorem row (c : Fin 2816) (h : c.val / 128 * 128 + c.val % 128 < 2816) : (⟨c.val / 128 * 128 + c.val % 128, h⟩ : Fin 2816) = c :=
  Fin.ext (by show c.val / 128 * 128 + c.val % 128 = c.val; omega)

/-- A host's arithmetic shift by four is a vector's. -/
theorem shr4 (u : BitVec 32) : IntOp.shrsi ArithUnit.host u 4#32 = IntOp.shrsi ArithUnit.vector u 4#32 := by
  rfl

theorem nib_eq (u : BitVec 32) :
    FloatOps.sitofp (F := Ideal) FTy.bf16 (IntOp.subi (IntOp.xori (IntOp.andi u 15#32) 8#32) 8#32) = nib u := rfl

/-- The adapted weight of an even column as the host lines spell it. -/
theorem fold_even (c : Fin 2816) (p : Fin 2880) (h3 : 2 * p.val < 5760) :
    code (2 * p.val) ((J Z).w c p) * (J Z).ws ⟨c.val / 128, by have := c.2; omega⟩ ⟨2 * p.val, h3⟩
      + half * ∑ r, (J Z).a c r * (J Z).b r ⟨2 * p.val, h3⟩ = Cert.Value.V (J Z) ⟨2 * p.val, h3⟩ c := by
  have e : ∀ h, (⟨(2 * p.val) / 2, h⟩ : Fin 2880) = p := fun h => Fin.ext (by show (2 * p.val) / 2 = p.val; omega)
  unfold Cert.Value.V
  show _ = code (2 * p.val) ((J Z).w c ⟨(2 * p.val) / 2, _⟩) * _ + half * ∑ r, (J Z).b r _ * (J Z).a c r
  rw [e]
  exact congrArg (_ + half * ·) (Finset.sum_congr rfl fun r _ => mul_comm _ _)

/-- The adapted weight of an odd column as the host lines spell it. -/
theorem fold_odd (c : Fin 2816) (p : Fin 2880) (h3 : 1 + 2 * p.val < 5760) :
    code (1 + 2 * p.val) ((J Z).w c p) * (J Z).ws ⟨c.val / 128, by have := c.2; omega⟩ ⟨1 + 2 * p.val, h3⟩
      + half * ∑ r, (J Z).a c r * (J Z).b r ⟨1 + 2 * p.val, h3⟩ = Cert.Value.V (J Z) ⟨1 + 2 * p.val, h3⟩ c := by
  have e : ∀ h, (⟨(1 + 2 * p.val) / 2, h⟩ : Fin 2880) = p := fun h => Fin.ext (by show (1 + 2 * p.val) / 2 = p.val; omega)
  unfold Cert.Value.V
  show _ = code (1 + 2 * p.val) ((J Z).w c ⟨(1 + 2 * p.val) / 2, _⟩) * _ + half * ∑ r, (J Z).b r _ * (J Z).a c r
  rw [e]
  exact congrArg (_ + half * ·) (Finset.sum_congr rfl fun r _ => mul_comm _ _)

/-- A sum over an even number of places, the even places first. -/
theorem range_parity (g : ℕ → EReal) : ∀ n : ℕ,
    ∑ k ∈ Finset.range (2 * n), g k = (∑ p ∈ Finset.range n, g (2 * p)) + ∑ p ∈ Finset.range n, g (1 + 2 * p)
  | 0 => by simp
  | n + 1 => by
    rw [show 2 * (n + 1) = 2 * n + 1 + 1 from rfl, Finset.sum_range_succ, Finset.sum_range_succ, range_parity g n,
      Finset.sum_range_succ, Finset.sum_range_succ, show 1 + 2 * n = 2 * n + 1 from Nat.add_comm _ _]
    abel

/-- The sum over the even columns and the sum over the odd ones are the sum over all. -/
theorem sum_parity (f : Fin 5760 → EReal) :
    (∑ p : Fin 2880, f ⟨2 * p.val, by have := p.2; omega⟩) + (∑ p : Fin 2880, f ⟨1 + 2 * p.val, by have := p.2; omega⟩) = ∑ o, f o := by
  have e : (∑ o, f o) = ∑ k ∈ Finset.range (2 * 2880), msk f k :=
    (Finset.sum_congr rfl fun o _ => (msk_of f o).symm).trans (Finset.sum_range (n := 5760) fun k => msk f k).symm
  rw [e, range_parity, Finset.sum_range, Finset.sum_range]
  exact congrArg₂ (· + ·) (Finset.sum_congr rfl fun p _ => (msk_lt f _).symm) (Finset.sum_congr rfl fun p _ => (msk_lt f _).symm)

/-- The sum over the two batches of 1024 tokens is the sum over the 2048 tokens. -/
theorem sum_batches (f : Fin 2048 → EReal) :
    (∑ b : Fin 2, ∑ t : Fin 1024, f ⟨b.val * 1024 + t.val, by have := b.2; have := t.2; omega⟩) = ∑ i, f i := by
  let g : ℕ → EReal := fun k => if h : k < 2048 then f ⟨k, h⟩ else 0
  have hg : ∀ k (h : k < 2048), f ⟨k, h⟩ = g k := fun k h => by show f ⟨k, h⟩ = dite _ _ _; rw [dif_pos h]
  have e : (∑ i, f i) = ∑ k ∈ Finset.range (1024 + 1024), g k :=
    (Finset.sum_congr rfl fun i _ => hg i.val i.2).trans (Finset.sum_range (n := 2048) g).symm
  rw [e, Finset.sum_range_add, Finset.sum_range, Finset.sum_range, Fin.sum_univ_two]
  exact congrArg₂ (· + ·)
    (Finset.sum_congr rfl fun t _ => (hg _ _).trans (congrArg g (by show 0 * 1024 + t.val = t.val; omega)))
    (Finset.sum_congr rfl fun t _ => (hg _ _).trans (congrArg g (by show 1 * 1024 + t.val = 1024 + t.val; omega)))

theorem tok_div (b : Fin 2) (t : Fin 1024) (h : b.val * 1024 + t.val < 2048) (h1 : (b.val * 1024 + t.val) / 1024 < 2) : (⟨(b.val * 1024 + t.val) / 1024, h1⟩ : Fin 2) = b :=
  Fin.ext (by show (b.val * 1024 + t.val) / 1024 = b.val; have := t.2; omega)
theorem tok_mod (b : Fin 2) (t : Fin 1024) (h1 : (b.val * 1024 + t.val) % 1024 < 1024) : (⟨(b.val * 1024 + t.val) % 1024, h1⟩ : Fin 1024) = t :=
  Fin.ext (by show (b.val * 1024 + t.val) % 1024 = t.val; have := t.2; omega)

theorem J_dy (b : Fin 2) (t : Fin 1024) (h : b.val * 1024 + t.val < 2048) (o : Fin 5760) :
    (J Z).dy ⟨b.val * 1024 + t.val, h⟩ o = (Z (Proc.devRef .tc main_arg0) : (⟨3, ![2, 1024, 5760]⟩ : Shape).Idx → EReal) (ix3 b t o) := by
  show (Z (Proc.devRef .tc main_arg0) : (⟨3, ![2, 1024, 5760]⟩ : Shape).Idx → EReal) (ix3 _ _ o) = _
  rw [tok_div b t h, tok_mod]
theorem J_x (b : Fin 2) (t : Fin 1024) (h : b.val * 1024 + t.val < 2048) (o : Fin 2816) :
    (J Z).x ⟨b.val * 1024 + t.val, h⟩ o = (Z (Proc.devRef .tc main_v0) : (⟨3, ![2, 1024, 2816]⟩ : Shape).Idx → EReal) (ix3 b t o) := by
  show (Z (Proc.devRef .tc main_v0) : (⟨3, ![2, 1024, 2816]⟩ : Shape).Idx → EReal) (ix3 _ _ o) = _
  rw [tok_div b t h, tok_mod]
theorem J_xs (b : Fin 2) (t : Fin 1024) (h : b.val * 1024 + t.val < 2048) :
    (J Z).xs ⟨b.val * 1024 + t.val, h⟩ = (Z (Proc.devRef .tc main_arg2) : (⟨2, ![2, 1024]⟩ : Shape).Idx → EReal) (ix2 b t) := by
  show (Z (Proc.devRef .tc main_arg2) : (⟨2, ![2, 1024]⟩ : Shape).Idx → EReal) (ix2 _ _) = _
  rw [tok_div b t h, tok_mod]

/-- The first result of the reference is the activations' gradient. -/
theorem v55 (b : Fin 2) (t : Fin 1024) (k : Fin 2816) :
    (StableHlo.after hostOps1 Z (Proc.devRef .tc main_v55) : (⟨3, ![2, 1024, 2816]⟩ : Shape).Idx → EReal) (ix3 b t k) = DX (J Z) ⟨b.val * 1024 + t.val, by have := b.2; have := t.2; omega⟩ k := by
  unfold DX
  rw [← sum_parity]
  simp only [← fold_even, ← fold_odd, D, J_dy]
  after_reads_at
  simp only [row, shr4, nib_eq]
  have c0 : ∀ (p : ℕ) (u : BitVec 8), code (2 * p) u = nib (BitVec.setWidth 32 u) := fun p u => by unfold code; rw [if_neg (by omega)]
  have c1 : ∀ (p : ℕ) (u : BitVec 8), code (1 + 2 * p) u = nib (IntOp.shrsi ArithUnit.vector (BitVec.setWidth 32 u) 4#32) := fun p u => by unfold code; rw [if_pos (by omega)]
  simp only [c0, c1]
  rfl

/-- The second result of the reference is the first factor's gradient. -/
theorem v80 (k : Fin 2816) (r : Fin 24) :
    (StableHlo.after hostOps1 Z (Proc.devRef .tc main_v80) : (⟨2, ![2816, 24]⟩ : Shape).Idx → EReal) (ix2 k r) = DA (J Z) r k := by
  unfold DA H
  rw [← sum_batches]
  simp only [D, J_dy, J_x, J_xs]
  after_reads_at
  refine congrArg (half * ·) (Finset.sum_congr rfl fun b _ => Finset.sum_congr rfl fun t _ => ?_)
  exact mul_comm _ _

/-- The third result of the reference is the second factor's gradient. -/
theorem v89 (r : Fin 24) (o : Fin 5760) :
    (StableHlo.after hostOps1 Z (Proc.devRef .tc main_v89) : (⟨2, ![24, 5760]⟩ : Shape).Idx → EReal) (ix2 r o) = DB (J Z) r o := by
  unfold DB XA
  rw [← sum_batches]
  simp only [D, J_dy, J_x, J_xs]
  after_reads_at
  rfl

/-- A quotient by a positive number, the infinite one included, is a product with a number from zero on that is not infinite. -/
theorem div_pos {c : EReal} (hc : 0 < c) (x : EReal) : Ideal.div x c = x * c⁻¹ := by
  unfold Ideal.div; rw [if_neg hc.ne']

/-- A sum of quotients by a positive number is the quotient of the sum. -/
theorem div_sum {ι : Type} {c : EReal} (hc : 0 < c) (s : Finset ι) (f : ι → EReal) :
    ∑ i ∈ s, Ideal.div (f i) c = Ideal.div (∑ i ∈ s, f i) c := by
  classical
  have h0 : 0 ≤ c⁻¹ := EReal.inv_nonneg_of_nonneg hc.le
  have h1 : c⁻¹ ≠ ⊤ := by
    intro h
    induction c using EReal.rec with
    | bot => simp at hc
    | top => simp at h
    | coe r => rw [← EReal.coe_inv] at h; exact EReal.coe_ne_top _ h
  simp only [div_pos hc]
  induction s using Finset.induction_on with
  | empty => simp
  | insert a s ha ih => rw [Finset.sum_insert ha, Finset.sum_insert ha, EReal.right_distrib_of_nonneg_of_ne_top h0 h1, ih]

/-- A host's sum over the first two of three axes. -/
theorem reduce01 (h : (⟨3, ![2, 1024, 5760]⟩ : Shape).ReducesTo [0, 1] ⟨1, ![5760]⟩) (v : (⟨3, ![2, 1024, 5760]⟩ : Shape).Idx → EReal)
    (z : EReal) (o : Fin 5760) : Ideal.hostReduceAdd h v z (ix1 o) = z + ∑ b : Fin 2, ∑ t : Fin 1024, v (ix3 b t o) := by
  refine congrArg (z + ·) ?_
  refine (Finset.sum_filter_eq_sum_of_fiber _ (fun k : Fin 2 × Fin 1024 => (ix3 k.1 k.2 o : (⟨3, ![2, 1024, 5760]⟩ : Shape).Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-- The activations through the adapted weight at an even column. -/
theorem v58 (b : Fin 2) (t : Fin 1024) (p : Fin 2880) :
    (StableHlo.upto hostOps1 Z 68 (Proc.devRef .tc main_v58) : (⟨4, ![2, 1024, 2880, 1]⟩ : Shape).Idx → EReal) (ix4 b t p 0)
      = XV (J Z) ⟨b.val * 1024 + t.val, by have := b.2; have := t.2; omega⟩ ⟨2 * p.val, by have := p.2; omega⟩ := by
  unfold XV
  simp only [← fold_even, J_x]
  after_reads_at
  simp only [row, shr4, nib_eq]
  have c0 : ∀ (p : ℕ) (u : BitVec 8), code (2 * p) u = nib (BitVec.setWidth 32 u) := fun p u => by unfold code; rw [if_neg (by omega)]
  have c1 : ∀ (p : ℕ) (u : BitVec 8), code (1 + 2 * p) u = nib (IntOp.shrsi ArithUnit.vector (BitVec.setWidth 32 u) 4#32) := fun p u => by unfold code; rw [if_pos (by omega)]
  simp only [c0, c1]
  rfl

/-- The activations through the adapted weight at an odd column. -/
theorem v59 (b : Fin 2) (t : Fin 1024) (p : Fin 2880) :
    (StableHlo.upto hostOps1 Z 68 (Proc.devRef .tc main_v59) : (⟨4, ![2, 1024, 2880, 1]⟩ : Shape).Idx → EReal) (ix4 b t p 0)
      = XV (J Z) ⟨b.val * 1024 + t.val, by have := b.2; have := t.2; omega⟩ ⟨1 + 2 * p.val, by have := p.2; omega⟩ := by
  unfold XV
  simp only [← fold_odd, J_x]
  after_reads_at
  simp only [row, shr4, nib_eq]
  have c0 : ∀ (p : ℕ) (u : BitVec 8), code (2 * p) u = nib (BitVec.setWidth 32 u) := fun p u => by unfold code; rw [if_neg (by omega)]
  have c1 : ∀ (p : ℕ) (u : BitVec 8), code (1 + 2 * p) u = nib (IntOp.shrsi ArithUnit.vector (BitVec.setWidth 32 u) 4#32) := fun p u => by unfold code; rw [if_pos (by omega)]
  simp only [c0, c1]
  rfl

/-- The fourth result of the reference is the magnitudes' gradient, where the norm is positive. -/
theorem v70 (o : Fin 5760) (hc : 0 < (J Z).cn o) :
    (StableHlo.after hostOps1 Z (Proc.devRef .tc main_v70) : (⟨1, ![5760]⟩ : Shape).Idx → EReal) (ix1 o) = DM (J Z) o := by
  unfold DM
  rw [← div_sum hc, ← sum_batches]
  simp only [J_dy, J_xs]
  after_reads_simp
  try simp -implicitDefEqProofs only [StableHlo.TRef.toBuf, StableHlo.TRef.ofBuf, cast_cast, cast_eq]
  clean_types
  pointwise
  refine (reduce01 _ _ _ o).trans ((zero_add _).trans ?_)
  refine Finset.sum_congr rfl fun b _ => Finset.sum_congr rfl fun t _ => ?_
  refine congrArg₂ Ideal.div (congrArg (_ * ·) (congrArg₂ (· * ·) ?_ ?_)) ?_
  · by_cases h : o.val % 2 < 1
    · refine (dif_pos h).trans ?_
      have e0 : ∀ h', (⟨o.val % 2, h'⟩ : Fin 1) = 0 := fun h' => Subsingleton.elim _ _
      have e1 : (⟨2 * (o.val / 2), by have := o.2; omega⟩ : Fin 5760) = o := Fin.ext (by show 2 * (o.val / 2) = o.val; omega)
      have hv := v58 Z b t ⟨o.val / 2, by have := o.2; omega⟩
      rw [← e0 (by omega)] at hv
      exact hv.trans (congrArg (XV (J Z) _) e1)
    · refine (dif_neg h).trans ?_
      have e0 : ∀ h', (⟨o.val % 2 - 1, h'⟩ : Fin 1) = 0 := fun h' => Subsingleton.elim _ _
      have e1 : (⟨1 + 2 * (o.val / 2), by have := o.2; omega⟩ : Fin 5760) = o := Fin.ext (by show 1 + 2 * (o.val / 2) = o.val; omega)
      have hv := v59 Z b t ⟨o.val / 2, by have := o.2; omega⟩
      rw [← e0 (by omega)] at hv
      exact hv.trans (congrArg (XV (J Z) _) e1)
  · pointwise
  · pointwise
    rfl

end Cert.ReferenceIdeal.Value

end
-- ==== Proof.Value.RefResults.lean ====
/-
  The reference's four results after its run, as functions of the arguments.
-/
module

public import proofs.«01_k».proof.Proof.Value.RefRead
public import Idealize.ShloMosaic.Lib.Pipeline.FrameBody
public import Idealize.ShloMosaic.Lib.Pipeline.Value
public import Idealize.ShloMosaic.Lib.Pipeline.Covers
public import Idealize.ShloMosaic.Lib.Pipeline.ValueKit.Geometry

@[expose] public section

set_option maxRecDepth 16384

noncomputable section

namespace Cert.ReferenceIdeal.Value

open Cert.ReferenceIdeal Cert.ReferenceIdeal.Gen Cert.Value
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The arguments of the launch. -/
def ins (c : Dev nD) : In :=
  In.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))

/-- The widened activations hold the activations' numbers. -/
def wide (c : Dev nD) : (⟨3, ![2, 1024, 2816]⟩ : Shape).Idx → EReal := m ((c : Thread nD τ).loc main_arg1)

/-- The body stores the block it loaded, in another format. -/
theorem out_eq (x : Vec Ideal S2x1024x2816 .fp8e4m3) : out0_1 (F := Ideal) x = x := by
  have z : (![0, 0, 0] : Fin S2x1024x2816.rank → ℕ) = fun _ => 0 := by decide
  unfold out0_1
  refine (View.canon_unit_zero z _ _).trans ?_
  exact View.ld_unit_zero (Val := Elt Ideal) z _ x

theorem flushed_wide (c : Dev nD) (t : Fin cfg0.N) :
    (dats m 0 c).flushed 1 t = ((cfg0.win 1).blk t).view.read (Elt Ideal) (wide m c) := by
  funext j
  have h0 : ∀ (t : Fin cfg0.N) (a : Fin 3), (cfg0.win 0).index t a = 0 := by decide +kernel
  have h1 : ∀ (t : Fin cfg0.N) (a : Fin 3), (cfg0.win 1).index t a = 0 := by decide +kernel
  have k : ∀ y : S2x1024x2816.Idx, ((cfg0.win 0).rect t).emb y = y := fun y => funext fun a => Fin.ext (by
    refine (ValueKit.rect_emb_unit_val _ _ _ _ _).trans ?_
    show (cfg0.win 0).index t a * (cfg0.win 0).size a + (y a).val = (y a).val
    rw [h0, Nat.zero_mul, Nat.zero_add])
  have k1 : ((cfg0.win 1).rect t).emb j = (cfg0.win 1).xinj (grid0.coords t) j := funext fun a => Fin.ext (by
    refine (ValueKit.rect_emb_unit_val _ _ _ _ _).trans ?_
    show (cfg0.win 1).index t a * (cfg0.win 1).size a + (j a).val = (j a).val
    rw [h1, Nat.zero_mul, Nat.zero_add])
  show (dats m 0 c).after 1 t ((cfg0.win 1).xinj (grid0.coords t) j) = wide m c (((cfg0.win 1).rect t).emb j)
  rw [k1, after0_1]
  generalize (cfg0.win 1).xinj (grid0.coords t) j = y
  refine (congrFun (out_eq _) y).trans ?_
  show wide m c (((cfg0.win 0).rect t).emb y) = wide m c y
  exact congrArg (wide m c) (k y)

theorem final_wide (c : Dev nD) : (dats m 0 c).arrAt 1 cfg0.N = wide m c :=
  have hcov : (cfg0.win 1).Covers := by decide +kernel
  (dats m 0 c).arrAt_eq_of_cover 1 (wide m c) (fun t _ => flushed_wide m c t)
    (hcov.cover _ (Memref.isWhole_whole _))

/-- The contents of the arrays after the region. -/
abbrev exitV (c : Dev nD) : Valuation τ sig (Elt Ideal) :=
  Pipeline.withArrays spec0 c (V0 m c) fun w => (dats m 0 c).arrAt w cfg0.N

theorem exit_v0 (c : Dev nD) : exitV m c (Proc.devRef .tc main_v0) = wide m c :=
  (Pipeline.withArrays_arr spec0 launch0.win.arr_inj c (V0 m c) _ 1).trans (final_wide m c)
theorem exit_arg0 (c : Dev nD) : exitV m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem exit_arg2 (c : Dev nD) : exitV m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem exit_arg3 (c : Dev nD) : exitV m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem exit_arg4 (c : Dev nD) : exitV m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem exit_arg5 (c : Dev nD) : exitV m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)
theorem exit_arg6 (c : Dev nD) : exitV m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)
theorem exit_arg7 (c : Dev nD) : exitV m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)
theorem exit_arg8 (c : Dev nD) : exitV m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

/-- What the host lines find is the launch's arguments. -/
theorem J_exit (c : Dev nD) : J (exitV m c) = ins m c := by
  unfold J ins
  rw [exit_v0, exit_arg0, exit_arg2, exit_arg3, exit_arg4, exit_arg5, exit_arg6, exit_arg7, exit_arg8]
  rfl

/-- The run of the reference: its results are the gradients of the arguments, the magnitudes' where the norm is positive. -/
theorem run : θ_run defs (onTc (τ := τ) (main (F := Ideal))) ⟨m, fun _ => 0, ρ⟩ (fun r => ∀ c : Dev nD,
      (∀ b t k, r.2.mem ((c : Thread nD τ).loc main_v55) (ix3 b t k) = DX (ins m c) ⟨b.val * 1024 + t.val, by have := b.2; have := t.2; omega⟩ k)
      ∧ (∀ k q, r.2.mem ((c : Thread nD τ).loc main_v80) (ix2 k q) = DA (ins m c) q k)
      ∧ (∀ q o, r.2.mem ((c : Thread nD τ).loc main_v89) (ix2 q o) = DB (ins m c) q o)
      ∧ (∀ o, 0 < (ins m c).cn o → r.2.mem ((c : Thread nD τ).loc main_v70) (ix1 o) = DM (ins m c) o)) := by
  have e : ∀ c b, Pipeline.afterTail₀ cfgs (dats m) 0 (V0 m) [hostOps1] c b = StableHlo.after hostOps1 (exitV m c) (Proc.devRef .tc b) := by
    intro c b
    show StableHlo.after (hostOps1 ++ []) (exitV m c) (Proc.devRef .tc b) = _
    rw [List.append_nil]
  refine (θ_run defs _ _).mono (fun r h c => ⟨fun b t k => ?_, fun k q => ?_, fun q o => ?_, fun o hc => ?_⟩) (run_main m ρ)
  · rw [← J_exit]
    exact (congrFun (((h c).2 main_v55 (Pipeline.mem_restRefs_of main_v55 (by decide) (by decide))).trans (e c main_v55)) _).trans (v55 _ b t k)
  · rw [← J_exit]
    exact (congrFun (((h c).2 main_v80 (Pipeline.mem_restRefs_of main_v80 (by decide) (by decide))).trans (e c main_v80)) _).trans (v80 _ k q)
  · rw [← J_exit]
    exact (congrFun (((h c).2 main_v89 (Pipeline.mem_restRefs_of main_v89 (by decide) (by decide))).trans (e c main_v89)) _).trans (v89 _ q o)
  · rw [← J_exit] at hc ⊢
    exact (congrFun (((h c).2 main_v70 (Pipeline.mem_restRefs_of main_v70 (by decide) (by decide))).trans (e c main_v70)) _).trans (v70 _ o hc)

end Cert.ReferenceIdeal.Value

end
-- ==== Proof.Value.Equal.lean ====
/-
  The kernel and the reference hold the same gradients: the algebraic claim.
-/
module

public import proofs.«01_k».proof.Defs
public import proofs.«01_k».proof.Proof.Value.Results
public import proofs.«01_k».proof.Proof.Value.RefResults
public import proofs.«01_k».proof.Proof.KernelIdealBody.Frame
public import Idealize.ShloMosaic.Lib.Claim

@[expose] public section

set_option maxRecDepth 16384

noncomputable section

namespace Cert.Value

open Idealize.ShloMosaic Idealize.ShloMosaic.TcCoe Idealize.SL.Sem

/-- The mask's shape facts. -/
theorem maskFacts : Cert.On__on.Facts := ⟨by decide, by decide, by decide, by decide⟩

/-- The mask of the fourth result is set only where the norm is positive. -/
theorem mask_pos [Cert.On__on.Facts] (a0 : FVec Ideal Cert.On__on.S2x1024x5760 .bf16) (a1 : FVec Ideal Cert.On__on.S2x1024x2816 .fp8e4m3)
    (a2 : FVec Ideal Cert.On__on.S2x1024 .f32) (a3 : IVec Cert.On__on.S2816x2880 8) (a4 : FVec Ideal Cert.On__on.S22x5760 .bf16)
    (a5 : FVec Ideal Cert.On__on.S2816x24 .bf16) (a6 : FVec Ideal Cert.On__on.S24x5760 .bf16) (a7 a8 : FVec Ideal Cert.On__on.S5760 .f32)
    (i : Cert.On__on.S5760.Idx) (h : (Cert.On__on.fn (F := Ideal) a0 a1 a2 a3 a4 a5 a6 a7 a8).2.2.2 i = 1#1) : (0 : EReal) < a8 i := by
  have h' : Ideal.cmp .ogt (a8 i) (Ideal.ofBits .f32 0x00000000#32) = 1 := h
  rw [Idealize.ShloMosaic.Ideal.cmp_ogt, Ideal.ofBits_zero_f32] at h'
  by_contra hn
  simp [hn] at h'

/-- The results' common contents, index by index. -/
def dxV (I : In) : (⟨3, ![2, 1024, 2816]⟩ : Shape).Idx → EReal := fun i =>
  DX I ⟨(i 0).val * 1024 + (i 1).val, by have h0 : (i 0).val < 2 := (i 0).isLt; have h1 : (i 1).val < 1024 := (i 1).isLt; omega⟩ (i 2)
def daV (I : In) : (⟨2, ![2816, 24]⟩ : Shape).Idx → EReal := fun i => DA I (i 1) (i 0)
def dbV (I : In) : (⟨2, ![24, 5760]⟩ : Shape).Idx → EReal := fun i => DB I (i 0) (i 1)
def dmV (I : In) : (⟨1, ![5760]⟩ : Shape).Idx → EReal := fun i => DM I (i 0)

/-- From arguments that agree, both programs run, end with their arguments unchanged, and hold the same four gradients:
    the magnitudes' one where the column's norm is positive. -/
theorem algebraic : Cert.algebraic_KernelIdeal_ReferenceIdeal_on__on (hKernelIdeal := Cert.KernelIdeal.Gen.facts)
    (hReferenceIdeal := Cert.ReferenceIdeal.Gen.facts) (hOn__on := maskFacts) := by
  letI := maskFacts
  intro m g m' g' pre hm
  have hI : ∀ c, Cert.ReferenceIdeal.Value.ins m' c = Cert.KernelIdeal.Value.ins m c := by
    intro c
    obtain ⟨h0, h1, h2, h3, h4, h5, h6, h7, h8⟩ := hm c
    unfold Cert.ReferenceIdeal.Value.ins Cert.KernelIdeal.Value.ins
    rw [h0, h1, h2, h3, h4, h5, h6, h7, h8]
  refine ⟨fun c => dxV (Cert.KernelIdeal.Value.ins m c), fun c => daV (Cert.KernelIdeal.Value.ins m c),
    fun c => dbV (Cert.KernelIdeal.Value.ins m c), fun c => dmV (Cert.KernelIdeal.Value.ins m c), ?_, ?_⟩
  · refine (θ_run _ _ _).mono (fun r h c => ?_) (θ_run_and (Cert.KernelIdeal.Value.run m g) (Cert.KernelIdeal.Body.frame m g))
    obtain ⟨x, a, b, d⟩ := h.1 c
    refine ⟨fun i _ => ?_, fun i _ => ?_, fun i _ => ?_, fun i _ => ?_, h.2.1 c⟩
    · rw [eq_ix3 i]; exact x _ _ _
    · rw [eq_ix2 i]; exact a _ _
    · rw [eq_ix2 i]; exact b _ _
    · rw [eq_ix1 i]; exact d _
  · refine (θ_run _ _ _).mono (fun r h c => ?_) (θ_run_and (Cert.ReferenceIdeal.Value.run m' g') (Cert.ReferenceIdeal.Gen.frame m' g'))
    obtain ⟨x, a, b, d⟩ := h.1 c
    rw [hI] at x a b d
    refine ⟨fun i _ => ?_, fun i _ => ?_, fun i _ => ?_, fun i hi => ?_, h.2.1 c⟩
    · rw [eq_ix3 i]; exact x _ _ _
    · rw [eq_ix2 i]; exact a _ _
    · rw [eq_ix2 i]; exact b _ _
    · have hp := mask_pos _ _ _ _ _ _ _ _ _ i hi
      rw [eq_ix1 i] at hp ⊢
      exact d _ hp

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelBody.Frame
public import proofs.«01_k».proof.Proof.KernelIdealBody.Frame
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Value.maskFacts,
  fun m ρ _ => Cert.Kernel.Body.frame m ρ, fun m ρ _ => Cert.KernelIdeal.Body.frame m ρ,
  fun m ρ _ => Cert.ReferenceIdeal.Gen.frame m ρ, trivial, Cert.Value.algebraic⟩

end Cert.Proof

end
